-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![8192, 8192]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = Layout.blockN ⟨2, ![4096, 4096]⟩ ⟨2, ![8192, 8192]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S_ : Shape := ⟨0, ![]⟩
abbrev S1x4096 : Shape := ⟨2, ![1, 4096]⟩
abbrev S4096x1 : Shape := ⟨2, ![4096, 1]⟩
abbrev S32x128 : Shape := ⟨2, ![32, 128]⟩
abbrev S1x1x4096 : Shape := ⟨3, ![1, 1, 4096]⟩
abbrev S4096x1x4096 : Shape := ⟨3, ![4096, 1, 4096]⟩
abbrev S16x1x4096 : Shape := ⟨3, ![16, 1, 4096]⟩
abbrev S2 : Shape := ⟨1, ![2]⟩
abbrev S2x16 : Shape := ⟨2, ![2, 16]⟩
abbrev S1x1 : Shape := ⟨2, ![1, 1]⟩
abbrev S1 : Shape := ⟨1, ![1]⟩
abbrev S16x4096 : Shape := ⟨2, ![16, 4096]⟩
abbrev S256x4096 : Shape := ⟨2, ![256, 4096]⟩
abbrev S256x1 : Shape := ⟨2, ![256, 1]⟩
abbrev S255x4096 : Shape := ⟨2, ![255, 4096]⟩
abbrev S2x4096 : Shape := ⟨2, ![2, 4096]⟩

abbrev nBuf : Space → Nat
  | .hbm => 45
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x4096, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4096x1, .bf16⟩
  | .hbm, ⟨35, _⟩ => ⟨S32x128, .bf16⟩
  | .hbm, ⟨36, _⟩ => ⟨S1x1x4096, .bf16⟩
  | .hbm, ⟨37, _⟩ => ⟨S4096x1x4096, .bf16⟩
  | .hbm, ⟨38, _⟩ => ⟨S16x1x4096, .bf16⟩
  | .hbm, ⟨39, _⟩ => ⟨S16x1x4096, .bf16⟩
  | .hbm, ⟨40, _⟩ => ⟨S32x128, .bf16⟩
  | .hbm, ⟨41, _⟩ => ⟨S4096x1, .bf16⟩
  | .hbm, ⟨42, _⟩ => ⟨S16x4096, .bf16⟩
  | .hbm, ⟨43, _⟩ => ⟨S16x4096, .bf16⟩
  | .hbm, ⟨44, _⟩ => ⟨S4096x4096, .bf16⟩
  | .local _ .vmem, ⟨0, _⟩ => ⟨S1x1x4096, .bf16⟩
  | .local _ .vmem, ⟨1, _⟩ => ⟨S32x128, .bf16⟩
  | .local _ .vmem, ⟨2, _⟩ => ⟨S16x1x4096, .bf16⟩
  | .local _ .vmem, ⟨3, _⟩ => ⟨S16x1x4096, .bf16⟩
  | .local _ .vmem, ⟨4, _⟩ => ⟨S32x128, .bf16⟩
  | .local _ .vmem, ⟨5, _⟩ => ⟨S256x4096, .bf16⟩
  | .local _ .vmem, ⟨6, _⟩ => ⟨S256x4096, .bf16⟩
  | .local _ .vmem, ⟨7, _⟩ => ⟨S16x4096, .bf16⟩
  | .local _ .vmem, ⟨8, _⟩ => ⟨S16x4096, .bf16⟩
  | .local _ .vmem, ⟨9, _⟩ => ⟨S256x1, .bf16⟩
  | .local _ .vmem, ⟨10, _⟩ => ⟨S256x1, .bf16⟩
  | .local _ .vmem, ⟨11, _⟩ => ⟨S256x1, .bf16⟩
  | .local _ .vmem, ⟨12, _⟩ => ⟨S256x1, .bf16⟩
  | .local _ .vmem, ⟨13, _⟩ => ⟨S256x4096, .bf16⟩
  | .local _ .vmem, ⟨14, _⟩ => ⟨S256x4096, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_c_2 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_3 : Ref sig .tc := ⟨.hbm, 13, rfl⟩
abbrev main_v9 : Ref sig .tc := ⟨.hbm, 14, rfl⟩
abbrev main_c_4 : Ref sig .tc := ⟨.hbm, 15, rfl⟩
abbrev main_v10 : Ref sig .tc := ⟨.hbm, 16, rfl⟩
abbrev main_c_5 : Ref sig .tc := ⟨.hbm, 17, rfl⟩
abbrev main_v11 : Ref sig .tc := ⟨.hbm, 18, rfl⟩
abbrev main_c_6 : Ref sig .tc := ⟨.hbm, 19, rfl⟩
abbrev main_v12 : Ref sig .tc := ⟨.hbm, 20, rfl⟩
abbrev main_v13 : Ref sig .tc := ⟨.hbm, 21, rfl⟩
abbrev main_c_7 : Ref sig .tc := ⟨.hbm, 22, rfl⟩
abbrev main_v14 : Ref sig .tc := ⟨.hbm, 23, rfl⟩
abbrev main_c_8 : Ref sig .tc := ⟨.hbm, 24, rfl⟩
abbrev main_v15 : Ref sig .tc := ⟨.hbm, 25, rfl⟩
abbrev main_c_9 : Ref sig .tc := ⟨.hbm, 26, rfl⟩
abbrev main_v16 : Ref sig .tc := ⟨.hbm, 27, rfl⟩
abbrev main_c_10 : Ref sig .tc := ⟨.hbm, 28, rfl⟩
abbrev main_v17 : Ref sig .tc := ⟨.hbm, 29, rfl⟩
abbrev main_c_11 : Ref sig .tc := ⟨.hbm, 30, rfl⟩
abbrev main_v18 : Ref sig .tc := ⟨.hbm, 31, rfl⟩
abbrev main_v19 : Ref sig .tc := ⟨.hbm, 32, rfl⟩
abbrev main_c_12 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 41
abbrev cc1_sem0_1 : DmaSem sig := 42
abbrev cc1_sem1_0 : DmaSem sig := 43
abbrev cc1_sem2_0 : DmaSem sig := 44
abbrev cc1_sem3_0 : DmaSem sig := 45
abbrev cc1_sem3_1 : DmaSem sig := 46
abbrev cc1_sem4_0 : DmaSem sig := 47
abbrev cc1_sem4_1 : DmaSem sig := 48
abbrev cc1_sem5_0 : DmaSem sig := 49
abbrev cc1_sem5_1 : DmaSem sig := 50
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_202 : BitVec 32 := 0#32
  let c1_i32_198 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v127 : BitVec 32 := Scalar.subi c1_i32_198 v2
  let c2_i32_201 : BitVec 32 := 2#32
  let v129 : BitVec 32 := Scalar.muli v127 c2_i32_201
  let v130 : BitVec 32 := Scalar.addi c0_i32_202 v129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_203 : BitVec 32 := 1#32
  let v131 : BitVec 32 := Scalar.muli v5 c1_i32_203
  let v132 : BitVec 32 := Scalar.addi v130 v131
  v132.toNat
def k0_dev2 (d0 : Dev nD) : Nat :=
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_205 : BitVec 32 := 2#32
  let v133 : BitVec 32 := Scalar.muli v2 c2_i32_205
  let v134 : BitVec 32 := Scalar.addi c0_i32_206 v133
  let c1_i32_199 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v128 : BitVec 32 := Scalar.subi c1_i32_199 v5
  let c1_i32_207 : BitVec 32 := 1#32
  let v135 : BitVec 32 := Scalar.muli v128 c1_i32_207
  let v136 : BitVec 32 := Scalar.addi v134 v135
  v136.toNat
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_209 : BitVec 32 := 0#32
  let v137 : BitVec 1 := Scalar.cmpi .eq v2 c0_i32_209
  let v138 : BitVec 32 := Scalar.extui v137
  let c0_i32_210 : BitVec 32 := 0#32
  let v139 : BitVec 1 := Scalar.cmpi .ne v138 c0_i32_210
  v139

def k0_dev3 (d0 : Dev nD) : Nat :=
  let c0_i32_475 : BitVec 32 := 0#32
  let c1_i32_471 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v286 : BitVec 32 := Scalar.subi c1_i32_471 v2
  let c2_i32_474 : BitVec 32 := 2#32
  let v287 : BitVec 32 := Scalar.muli v286 c2_i32_474
  let v288 : BitVec 32 := Scalar.addi c0_i32_475 v287
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_476 : BitVec 32 := 1#32
  let v289 : BitVec 32 := Scalar.muli v5 c1_i32_476
  let v290 : BitVec 32 := Scalar.addi v288 v289
  v290.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_211 : BitVec 32 := 1#32
  let v140 : BitVec 1 := Scalar.cmpi .eq v2 c1_i32_211
  let v141 : BitVec 32 := Scalar.extui v140
  let c0_i32_212 : BitVec 32 := 0#32
  let v142 : BitVec 1 := Scalar.cmpi .ne v141 c0_i32_212
  v142

def k0_dev4 (d0 : Dev nD) : Nat :=
  let c0_i32_475 : BitVec 32 := 0#32
  let c1_i32_471 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v286 : BitVec 32 := Scalar.subi c1_i32_471 v2
  let c2_i32_474 : BitVec 32 := 2#32
  let v287 : BitVec 32 := Scalar.muli v286 c2_i32_474
  let v288 : BitVec 32 := Scalar.addi c0_i32_475 v287
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_476 : BitVec 32 := 1#32
  let v289 : BitVec 32 := Scalar.muli v5 c1_i32_476
  let v290 : BitVec 32 := Scalar.addi v288 v289
  v290.toNat
def k0_dev5 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v144 : BitVec 32 := Scalar.muli v2 c2_i32_216
  let v145 : BitVec 32 := Scalar.addi c0_i32_217 v144
  let c1_i32_213 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v143 : BitVec 32 := Scalar.subi c1_i32_213 v5
  let c1_i32_218 : BitVec 32 := 1#32
  let v146 : BitVec 32 := Scalar.muli v143 c1_i32_218
  let v147 : BitVec 32 := Scalar.addi v145 v146
  v147.toNat
abbrev stage0_0 : Fin 1 → Memref sig .tc .vmem S1x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def k1_off1 (i : grid1.Coords) : Fin 2 → Nat :=
  let arg0 : BitVec 32 := BitVec.ofNat 32 (i 0).val
  let v8 : Index := Scalar.indexCast arg0
  let c0_3 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8192x8192 : Shape := ⟨2, ![8192, 8192]⟩
abbrev S8190x8190 : Shape := ⟨2, ![8190, 8190]⟩
abbrev S_ : Shape := ⟨0, ![]⟩
abbrev S1 : Shape := ⟨1, ![1]⟩
abbrev S2 : Shape := ⟨1, ![2]⟩

abbrev nBuf : Space → Nat
  | .hbm => 31
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8190x8190, .bf16⟩
  | .hbm, ⟨2, _⟩ => ⟨S_, .bf16⟩
  | .hbm, ⟨3, _⟩ => ⟨S8190x8190, .bf16⟩
  | .hbm, ⟨4, _⟩ => ⟨S8190x8190, .bf16⟩
  | .hbm, ⟨5, _⟩ => ⟨S8190x8190, .bf16⟩
  | .hbm, ⟨6, _⟩ => ⟨S_, .bf16⟩
  | .hbm, ⟨7, _⟩ => ⟨S8190x8190, .bf16⟩
  | .hbm, ⟨8, _⟩ => ⟨S8190x8190, .bf16⟩
  | .hbm, ⟨9, _⟩ => ⟨S8190x8190, .bf16⟩
  | .hbm, ⟨10, _⟩ => ⟨S8190x8190, .bf16⟩
  | .hbm, ⟨11, _⟩ => ⟨S_, .bf16⟩
  | .hbm, ⟨12, _⟩ => ⟨S8190x8190, .bf16⟩
  | .hbm, ⟨13, _⟩ => ⟨S8190x8190, .bf16⟩
  | .hbm, ⟨14, _⟩ => ⟨S8190x8190, .bf16⟩
  | .hbm, ⟨15, _⟩ => ⟨S8190x8190, .bf16⟩
  | .hbm, ⟨16, _⟩ => ⟨S_, .bf16⟩
  | .hbm, ⟨17, _⟩ => ⟨S8190x8190, .bf16⟩
  | .hbm, ⟨18, _⟩ => ⟨S8190x8190, .bf16⟩
  | .hbm, ⟨19, _⟩ => ⟨S8190x8190, .bf16⟩
  | .hbm, ⟨20, _⟩ => ⟨S8190x8190, .bf16⟩
  | .hbm, ⟨21, _⟩ => ⟨S_, .bf16⟩
  | .hbm, ⟨22, _⟩ => ⟨S8190x8190, .bf16⟩
  | .hbm, ⟨23, _⟩ => ⟨S8190x8190, .bf16⟩
  | .hbm, ⟨24, _⟩ => ⟨S8190x8190, .bf16⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S8192x8192, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_c_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Protocol.lean ====
/-
# The edge exchange: who holds what, and who pays whom

The four devices stand in a two by two square. Device `c` sends its boundary row to the device across in the first
mesh direction (`xn c`) and its boundary column to the one across in the second (`yn c`). This file fixes the memrefs and
semaphores of the exchange kernel, the five protocol cells of a device (its barrier cell and the two send and two receive
cells), what each duty of a cell pays, and what each device owes when it starts.
-/
module

public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Launch
public import Idealize.ShloMosaic.Lib.Pipeline.Kit
public import Idealize.ShloMosaic.Lib.Pipeline.DatRel
public import Idealize.ShloMosaic.Lib.MemrefSat
public import Idealize.ShloMosaic.Lib.Transfers
public import Idealize.ShloMosaic.Lib.Rounds
public import Idealize.ShloMosaic.Lib.Tactic

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's own algebra: rounds whose duties are named by booleans. -/
abbrev UB : Type := URounds (GSem nD τ sig) Bool
/-- One copy of the pipelines' algebra for the first call, one for the second, the protocol's, and the counters the local
    transfers draw from. -/
abbrev UU : Type := UR sig nD τ × (UR sig nD τ × (UB × Counters))

local notation "𝕄" => MT nD τ sig Unit (Elt F) ℕ UU ℕ

abbrev EP : Emb (UR sig nD τ) (MT nD τ sig Unit (Elt F) ℕ UU ℕ) := embL
abbrev EQ : Emb (UR sig nD τ) (MT nD τ sig Unit (Elt F) ℕ UU ℕ) := Emb.inl.trans embR
abbrev ER : Emb UB (MT nD τ sig Unit (Elt F) ℕ UU ℕ) := Emb.inl.trans (Emb.inr.trans embR)
abbrev EC : UEmb Counters (MT nD τ sig Unit (Elt F) ℕ UU ℕ) := countersEmb

abbrev 𝒱₀ : Variants := Variants.none

/-! ## The square of devices -/

set_option backward.proofsInPublic true in
/-- The device across in the first mesh direction. -/
def xn (c : Dev nD) : Dev nD := ⟨(c.val + 2) % 4, Nat.mod_lt _ (by decide)⟩
set_option backward.proofsInPublic true in
/-- The device across in the second mesh direction. -/
def yn (c : Dev nD) : Dev nD := ⟨2 * (c.val / 2) + 1 - c.val % 2, by have : c.val < 4 := c.isLt; show _ < 4; omega⟩
theorem xn_xn (c : Dev nD) : xn (xn c) = c := by revert c; decide
theorem yn_yn (c : Dev nD) : yn (yn c) = c := by revert c; decide
def acrossX : Dev nD ≃ Dev nD := ⟨xn, xn, xn_xn, xn_xn⟩
def acrossY : Dev nD ≃ Dev nD := ⟨yn, yn, yn_yn, yn_yn⟩

theorem dev1_eq (c : Dev nD) : (⟨k0_dev1 c, k0_dev1_lt c⟩ : Dev nD) = xn c :=
  Fin.ext ((k0_dev1_eq c).trans (by revert c; decide))
theorem dev2_eq (c : Dev nD) : (⟨k0_dev2 c, k0_dev2_lt c⟩ : Dev nD) = yn c :=
  Fin.ext ((k0_dev2_eq c).trans (by revert c; decide))
theorem dev5_eq (c : Dev nD) : (⟨k0_dev5 c, k0_dev5_lt c⟩ : Dev nD) = yn c :=
  Fin.ext ((k0_dev5_eq c).trans (by revert c; decide))

/-- Device `c` stands in the second row of the square. -/
abbrev low (c : Dev nD) : Prop := c.val / 2 = 1
theorem low_xn (c : Dev nD) : low (xn c) ↔ ¬ low c := by revert c; decide

/-! ## Memrefs and semaphores -/

abbrev rM : Memref sig .tc .vmem S1x1x4096 .bf16 := Memref.whole cc0_stg0_0
abbrev cM : Memref sig .tc .vmem S32x128 .bf16 := Memref.whole cc0_stg1_0
abbrev xM : Memref sig .tc .hbm S4096x1x4096 .bf16 := Memref.whole main_v23
abbrev uM : Memref sig .tc .vmem S16x1x4096 .bf16 := Memref.whole cc0_stg2_0
abbrev dM : Memref sig .tc .vmem S16x1x4096 .bf16 := Memref.whole cc0_stg3_0
abbrev oM : Memref sig .tc .vmem S32x128 .bf16 := Memref.whole cc0_stg4_0

/-- Row `i` of a buffer of sixteen rows. -/
abbrev row16 (i : Fin 16) : Rect S16x1x4096 :=
  Rect.unit (s := S16x1x4096) ![i.val, 0, 0] S1x1x4096.size (by
    intro a; have := i.isLt; fin_cases a <;> simp [S16x1x4096, S1x1x4096] <;> omega)
/-- Row `i` of the block. -/
abbrev row4096 (i : Fin 4096) : Rect S4096x1x4096 :=
  Rect.unit (s := S4096x1x4096) ![i.val, 0, 0] S1x1x4096.size (by
    intro a; have := i.isLt; fin_cases a <;> simp [S4096x1x4096, S1x1x4096] <;> omega)

abbrev uRow (i : Fin 16) : Memref sig .tc .vmem S1x1x4096 .bf16 := uM.slice (row16 i) (fun _ => rfl)
abbrev dRow (i : Fin 16) : Memref sig .tc .vmem S1x1x4096 .bf16 := dM.slice (row16 i) (fun _ => rfl)
abbrev xRow (i : Fin 4096) : Memref sig .tc .hbm S1x1x4096 .bf16 := xM.slice (row4096 i) (fun _ => rfl)

/-- Where the row sent to device `c` lands: above its first band in the second row of devices, below its last in the
    first. -/
def tgt (c : Dev nD) : Memref sig .tc .vmem S1x1x4096 .bf16 := if low c then uRow 0 else dRow 15
/-- The other end row, which nothing writes. -/
def keep (c : Dev nD) : Memref sig .tc .vmem S1x1x4096 .bf16 := if low c then dRow 15 else uRow 0
theorem tgt_low {c : Dev nD} (h : low c) : tgt c = uRow 0 := if_pos h
theorem tgt_high {c : Dev nD} (h : ¬ low c) : tgt c = dRow 15 := if_neg h
theorem keep_low {c : Dev nD} (h : low c) : keep c = dRow 15 := if_pos h
theorem keep_high {c : Dev nD} (h : ¬ low c) : keep c = uRow 0 := if_neg h

abbrev barS : Sem sig := 0
abbrev s0 : DmaSem sig := ⟨5, by decide⟩
abbrev s1 : DmaSem sig := ⟨6, by decide⟩
abbrev r0 : DmaSem sig := ⟨7, by decide⟩
abbrev r1 : DmaSem sig := ⟨8, by decide⟩
/-- The semaphores of the local copies: row `j + 1` of the rows above, row `j` of the rows below. -/
abbrev uSem (j : Fin 15) : DmaSem sig := ⟨10 + j.val, by have := j.isLt; show _ < 51; omega⟩
abbrev dSem (j : Fin 15) : DmaSem sig := ⟨25 + j.val, by have := j.isLt; show _ < 51; omega⟩

abbrev barCell (c : Dev nD) : GSem nD τ sig := ((c : Thread nD τ), .reg barS)
abbrev s0Cell (c : Dev nD) : GSem nD τ sig := ((c : Thread nD τ), .dma s0)
abbrev s1Cell (c : Dev nD) : GSem nD τ sig := ((c : Thread nD τ), .dma s1)
abbrev r0Cell (c : Dev nD) : GSem nD τ sig := ((c : Thread nD τ), .dma r0)
abbrev r1Cell (c : Dev nD) : GSem nD τ sig := ((c : Thread nD τ), .dma r1)

/-- What one row, or one column, adds to a semaphore. -/
abbrev N : ℕ := (rM : Memref sig .tc .vmem S1x1x4096 .bf16).view.dmaCredit
theorem N_pos : 0 < N := View.dmaCredit_pos _ (by decide)
theorem credit_uRow (i : Fin 16) : (uRow i).view.dmaCredit = N := rfl
theorem credit_dRow (i : Fin 16) : (dRow i).view.dmaCredit = N := rfl
theorem credit_col : (oM : Memref sig .tc .vmem S32x128 .bf16).view.dmaCredit = N := by decide
theorem credit_tgt (c : Dev nD) : (tgt c).view.dmaCredit = N := by
  unfold tgt; split <;> rfl

/-! ## The schedule -/

section Sched

variable (Rv : Dev nD → S1x1x4096.Idx → Elt F .bf16) (Cv : Dev nD → S32x128.Idx → Elt F .bf16)

/-- Paid to the barrier cell of `c` by `xn c`: the row of `xn c` that the row of `c` is to land in, and that the receive
    cell of that copy is open. -/
def barPayX (c : Dev nD) : sProp 𝕄 :=
  iprop((∃ Y, owns (xn c : Thread nD τ) (tgt (xn c)) fullShare Y) ∗ reached ER (r0Cell (xn c)) 0)
/-- Paid by `yn c`: its column buffer, and that the receive cell of that copy is open. -/
def barPayY (c : Dev nD) : sProp 𝕄 :=
  iprop((∃ Y, owns (yn c : Thread nD τ) oM fullShare Y) ∗ reached ER (r1Cell (yn c)) 0)
def s0Pay (c : Dev nD) : sProp 𝕄 := owns (c : Thread nD τ) rM fullShare (Rv c)
def s1Pay (c : Dev nD) : sProp 𝕄 := owns (c : Thread nD τ) cM fullShare (Cv c)
def r0Pay (c : Dev nD) : sProp 𝕄 := owns (c : Thread nD τ) (tgt c) fullShare (Rv (xn c))
def r1Pay (c : Dev nD) : sProp 𝕄 := owns (c : Thread nD τ) oM fullShare (Cv (yn c))

abbrev IsDma (g : GSem nD τ sig) : Prop := g.2 = .dma s0 ∨ g.2 = .dma s1 ∨ g.2 = .dma r0 ∨ g.2 = .dma r1

def Rd : Rounds.Schedule (GSem nD τ sig) Bool 𝕄 where
  duties g r := if r = 0 ∧ g.1.2 = .tc then (if g.2 = .reg barS then Finset.univ else if IsDma g then {false} else ∅) else ∅
  unitless _ := False
  amount g _ _ := if g.2 = .reg barS then 1 else N
  payload g _ b :=
    if g.2 = .reg barS then (if b then barPayY g.1.1 else barPayX g.1.1)
    else if g.2 = .dma s0 then s0Pay Rv g.1.1
    else if g.2 = .dma s1 then s1Pay Cv g.1.1
    else if g.2 = .dma r0 then r0Pay Rv g.1.1
    else if g.2 = .dma r1 then r1Pay Cv g.1.1
    else iprop(emp)
  amount_pos g _ _ _ := by
    by_cases h : g.2 = .reg barS
    · rw [if_pos h]; exact Nat.one_pos
    · rw [if_neg h]; exact N_pos

instance Rd_storable (g : GSem nD τ sig) (r : ℕ) (b : Bool) :
    BI.Storable (upEmb : UEmb _ 𝕄) ((Rd (F := F) Rv Cv).payload g r b) := by
  show BI.Storable upEmb (if g.2 = .reg barS then (if b then barPayY g.1.1 else barPayX g.1.1)
    else if g.2 = .dma s0 then s0Pay Rv g.1.1
    else if g.2 = .dma s1 then s1Pay Cv g.1.1
    else if g.2 = .dma r0 then r0Pay Rv g.1.1
    else if g.2 = .dma r1 then r1Pay Cv g.1.1
    else iprop(emp))
  unfold barPayY barPayX s0Pay s1Pay r0Pay r1Pay
  (repeat' split) <;> infer_instance

variable (c : Dev nD)

theorem dma_ne_bar (s : DmaSem sig) : (SemLoc.dma s : SemLoc sig) ≠ .reg barS := fun h => by cases h

theorem duties_bar : (Rd (F := F) Rv Cv).duties (barCell c) 0 = Finset.univ := by
  dsimp only [Rd]; rw [if_pos ⟨rfl, rfl⟩, if_pos rfl]
theorem duties_dma {s : DmaSem sig} (h : IsDma ((c : Thread nD τ), .dma s)) :
    (Rd (F := F) Rv Cv).duties ((c : Thread nD τ), .dma s) 0 = {false} := by
  dsimp only [Rd]; rw [if_pos ⟨rfl, rfl⟩, if_neg (dma_ne_bar s), if_pos h]
theorem duties_later (g : GSem nD τ sig) : ∀ r, 1 ≤ r → (Rd (F := F) Rv Cv).duties g r = ∅ :=
  fun r hr => by dsimp only [Rd]; exact if_neg fun h => by omega

theorem amount_bar (b : Bool) : (Rd (F := F) Rv Cv).amount (barCell c) 0 b = 1 := by dsimp only [Rd]; exact if_pos rfl
theorem amount_dma (s : DmaSem sig) (b : Bool) : (Rd (F := F) Rv Cv).amount ((c : Thread nD τ), .dma s) 0 b = N := by
  dsimp only [Rd]; exact if_neg (dma_ne_bar s)

theorem expect_bar : (Rd (F := F) Rv Cv).expect (barCell c) 0 = 2 := by
  unfold Schedule.expect Schedule.amountOf; rw [duties_bar, Fintype.sum_bool, amount_bar, amount_bar]
theorem expect_dma {s : DmaSem sig} (h : IsDma ((c : Thread nD τ), .dma s)) :
    (Rd (F := F) Rv Cv).expect ((c : Thread nD τ), .dma s) 0 = N := by
  unfold Schedule.expect Schedule.amountOf; rw [duties_dma Rv Cv c h, Finset.sum_singleton, amount_dma]

theorem payload_barX : (Rd (F := F) Rv Cv).payload (barCell c) 0 false = barPayX c := by
  dsimp only [Rd]; rw [if_pos rfl]; rfl
theorem payload_barY : (Rd (F := F) Rv Cv).payload (barCell c) 0 true = barPayY c := by
  dsimp only [Rd]; rw [if_pos rfl]; rfl
theorem payload_s0 (b : Bool) : (Rd (F := F) Rv Cv).payload (s0Cell c) 0 b = s0Pay Rv c := by
  dsimp only [Rd]; rw [if_neg (dma_ne_bar _), if_pos rfl]
theorem payload_s1 (b : Bool) : (Rd (F := F) Rv Cv).payload (s1Cell c) 0 b = s1Pay Cv c := by
  dsimp only [Rd]; rw [if_neg (dma_ne_bar _), if_neg (by decide), if_pos rfl]
theorem payload_r0 (b : Bool) : (Rd (F := F) Rv Cv).payload (r0Cell c) 0 b = r0Pay Rv c := by
  dsimp only [Rd]; rw [if_neg (dma_ne_bar _), if_neg (by decide), if_neg (by decide), if_pos rfl]
theorem payload_r1 (b : Bool) : (Rd (F := F) Rv Cv).payload (r1Cell c) 0 b = r1Pay Cv c := by
  dsimp only [Rd]; rw [if_neg (dma_ne_bar _), if_neg (by decide), if_neg (by decide), if_neg (by decide), if_pos rfl]

theorem rest_bar : bigSep ((Rd (F := F) Rv Cv).duties (barCell c) 0 \ ∅) (fun b => (Rd (F := F) Rv Cv).payload (barCell c) 0 b)
    = iprop(barPayX c ∗ barPayY c) := by
  rw [Finset.sdiff_empty, duties_bar, ← payload_barX Rv Cv, ← payload_barY Rv Cv]
  exact bigSep_univ_eq_bigSepL [false, true] (by decide) (by decide) _
theorem rest_dma {s : DmaSem sig} (h : IsDma ((c : Thread nD τ), .dma s)) :
    bigSep ((Rd (F := F) Rv Cv).duties ((c : Thread nD τ), .dma s) 0 \ ∅)
      (fun b => (Rd (F := F) Rv Cv).payload ((c : Thread nD τ), .dma s) 0 b)
    = (Rd (F := F) Rv Cv).payload ((c : Thread nD τ), .dma s) 0 false := by
  rw [Finset.sdiff_empty, duties_dma Rv Cv c h, bigSep_singleton]

theorem isDma_s0 : IsDma (s0Cell c) := .inl rfl
theorem isDma_s1 : IsDma (s1Cell c) := .inr (.inl rfl)
theorem isDma_r0 : IsDma (r0Cell c) := .inr (.inr (.inl rfl))
theorem isDma_r1 : IsDma (r1Cell c) := .inr (.inr (.inr rfl))

end Sched

/-! ## What each device owes at launch; the levels -/

/-- What is left once both barrier units are paid: the two receive credits. -/
def Oc (c : Dev nD) : CellTallies nD τ sig Unit := tallyAt (r1Cell (yn c)) () N + tallyAt (r0Cell (xn c)) () N
def O₀ (c : Dev nD) : CellTallies nD τ sig Unit := Oc c + tallyAt (barCell (yn c)) () 1 + tallyAt (barCell (xn c)) () 1

def L (g : GSem nD τ sig) : Finset Unit := if g.1.2 = .tc then {()} else ∅
/-- Barrier cells at 1, receive cells at 2, the rest at 0. -/
def lv (g : GSem nD τ sig) (_ : Unit) : ℕ :=
  if g.2 = .reg barS then 1 else if g.2 = .dma r0 ∨ g.2 = .dma r1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_r0 (c : Dev nD) : lv (r0Cell c) () = 2 := by unfold lv; rw [if_neg (dma_ne_bar _), if_pos (.inl rfl)]
theorem lv_r1 (c : Dev nD) : lv (r1Cell c) () = 2 := by unfold lv; rw [if_neg (dma_ne_bar _), if_pos (.inr rfl)]
theorem lv_bar (c : Dev nD) : lv (barCell c) () = 1 := by unfold lv; rw [if_pos rfl]

theorem tally_pos {g g' : GSem nD τ sig} {u u' : Unit} {k : ℕ} (h : 0 < (tallyAt g u k : CellTallies nD τ sig Unit) g' u') : g' = g := by
  rw [tallyAt_apply] at h
  split at h
  · next hg => exact hg.1
  · exact absurd h (Nat.lt_irrefl 0)

theorem Oc_pos {c : Dev nD} {g : GSem nD τ sig} {u : Unit} (h : 0 < Oc c g u) : g = r1Cell (yn c) ∨ g = r0Cell (xn c) := by
  unfold Oc at h
  rw [Pi.add_apply, Finsupp.add_apply] at h
  exact (Nat.add_pos_iff_pos_or_pos.mp h).imp tally_pos tally_pos

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have key : g = r1Cell (yn c) ∨ g = r0Cell (xn c) ∨ g = barCell (yn c) ∨ g = barCell (xn c) := by
    rcases Nat.add_pos_iff_pos_or_pos.mp h with h | h
    · rcases Nat.add_pos_iff_pos_or_pos.mp h with h | h
      · exact (Oc_pos h).imp_right .inl
      · exact .inr (.inr (.inl (tally_pos h)))
    · exact .inr (.inr (.inr (tally_pos h)))
  rcases key with rfl | rfl | rfl | rfl <;> refine ⟨by rw [L_tc]; exact Finset.mem_singleton_self _, ?_⟩
  · exact (lv_r1 _).symm ▸ Nat.two_pos
  · exact (lv_r0 _).symm ▸ Nat.two_pos
  · exact (lv_bar _).symm ▸ Nat.one_pos
  · exact (lv_bar _).symm ▸ Nat.one_pos

theorem mayWait_bar (c : Dev nD) : (levAts L lv : sProp 𝕄) ⊢ MayWait (c : Thread nD τ) (.reg barS) () (Oc c) :=
  MayOwe.of_cut (L := L) (lev := lv) 1 (fun p hp => by rw [Finset.mem_singleton.mp hp, L_tc]; exact Finset.mem_singleton_self _)
    (fun g u hg => by rcases Oc_pos hg with rfl | rfl <;> (rw [L_tc]; exact Finset.mem_singleton_self _))
    (fun p hp => by rw [Finset.mem_singleton.mp hp]; exact (lv_bar c).le)
    (fun g u hg => by
      rcases Oc_pos hg with rfl | rfl
      · exact (lv_r1 _).symm ▸ Nat.lt_succ_self 1
      · exact (lv_r0 _).symm ▸ Nat.lt_succ_self 1)

/-! ## The protocol's ghost state -/

section Ghost

variable (Rv : Dev nD → S1x1x4096.Idx → Elt F .bf16) (Cv : Dev nD → S32x128.Idx → Elt F .bf16)

/-- The cells of device `c`, and those of its two partners it pays into. -/
def known (κ : GSem nD τ sig → ℕ) (c : Dev nD) : sProp 𝕄 :=
  iprop(cellInv ER (Rd Rv Cv) (κ (barCell c)) (barCell c)
    ∗ cellInv ER (Rd Rv Cv) (κ (s0Cell c)) (s0Cell c) ∗ cellInv ER (Rd Rv Cv) (κ (s1Cell c)) (s1Cell c)
    ∗ cellInv ER (Rd Rv Cv) (κ (r0Cell c)) (r0Cell c) ∗ cellInv ER (Rd Rv Cv) (κ (r1Cell c)) (r1Cell c)
    ∗ cellInv ER (Rd Rv Cv) (κ (barCell (xn c))) (barCell (xn c)) ∗ cellInv ER (Rd Rv Cv) (κ (barCell (yn c))) (barCell (yn c))
    ∗ cellInv ER (Rd Rv Cv) (κ (r0Cell (xn c))) (r0Cell (xn c)) ∗ cellInv ER (Rd Rv Cv) (κ (r1Cell (yn c))) (r1Cell (yn c))
    ∗ reached ER (barCell (xn c)) 0 ∗ reached ER (barCell (yn c)) 0)

theorem known_eq (κ : GSem nD τ sig → ℕ) (c : Dev nD) : known (F := F) Rv Cv κ c =
  iprop(cellInv ER (Rd Rv Cv) (κ (barCell c)) (barCell c)
    ∗ cellInv ER (Rd Rv Cv) (κ (s0Cell c)) (s0Cell c) ∗ cellInv ER (Rd Rv Cv) (κ (s1Cell c)) (s1Cell c)
    ∗ cellInv ER (Rd Rv Cv) (κ (r0Cell c)) (r0Cell c) ∗ cellInv ER (Rd Rv Cv) (κ (r1Cell c)) (r1Cell c)
    ∗ cellInv ER (Rd Rv Cv) (κ (barCell (xn c))) (barCell (xn c)) ∗ cellInv ER (Rd Rv Cv) (κ (barCell (yn c))) (barCell (yn c))
    ∗ cellInv ER (Rd Rv Cv) (κ (r0Cell (xn c))) (r0Cell (xn c)) ∗ cellInv ER (Rd Rv Cv) (κ (r1Cell (yn c))) (r1Cell (yn c))
    ∗ reached ER (barCell (xn c)) 0 ∗ reached ER (barCell (yn c)) 0) := rfl

instance known_persistent (κ : GSem nD τ sig → ℕ) (c : Dev nD) : BI.Persistent (known (F := F) Rv Cv κ c) := by
  unfold known; infer_instance

/-- The duties device `c` is to pay. -/
def toPay (c : Dev nD) : sProp 𝕄 :=
  iprop(dutyTok ER (barCell (xn c)) 0 false ∗ dutyTok ER (barCell (yn c)) 0 true
    ∗ dutyTok ER (r0Cell (xn c)) 0 false ∗ dutyTok ER (r1Cell (yn c)) 0 false
    ∗ dutyTok ER (s0Cell c) 0 false ∗ dutyTok ER (s1Cell c) 0 false)

/-- What it is to be paid. -/
def toGet (c : Dev nD) : sProp 𝕄 :=
  iprop(cred (tallyAt (barCell c) () 2) ∗ cred (tallyAt (r0Cell c) () N) ∗ cred (tallyAt (r1Cell c) () N))

/-- What device `c` carries from the launch to the exchange: its four transfer cells are not yet open. -/
def closed (c : Dev nD) : sProp 𝕄 :=
  iprop((∃ κ, known (F := F) Rv Cv κ c) ∗ atPos ER (barCell c) 0 ∅ 0
    ∗ (openTok ER (s0Cell c) ∗ openTok ER (s1Cell c) ∗ openTok ER (r0Cell c) ∗ openTok ER (r1Cell c))
    ∗ toPay c ∗ toGet c)

/-- The same once they are open. -/
def opened (c : Dev nD) : sProp 𝕄 :=
  iprop((∃ κ, known (F := F) Rv Cv κ c)
    ∗ (atPos ER (barCell c) 0 ∅ 0 ∗ atPos ER (s0Cell c) 0 ∅ 0 ∗ atPos ER (s1Cell c) 0 ∅ 0
      ∗ atPos ER (r0Cell c) 0 ∅ 0 ∗ atPos ER (r1Cell c) 0 ∅ 0)
    ∗ (reached ER (s0Cell c) 0 ∗ reached ER (s1Cell c) 0 ∗ reached ER (r0Cell c) 0 ∗ reached ER (r1Cell c) 0)
    ∗ toPay c ∗ toGet c)

/-- Opening the four cells with their counters at zero. -/
theorem open_cells (c : Dev nD) :
    iprop(closed (F := F) Rv Cv c ∗ semVal (s0Cell c) 0 ∗ semVal (s1Cell c) 0 ∗ semVal (r0Cell c) 0 ∗ semVal (r1Cell c) 0)
      ⊢ (|={Set.univ}=> opened Rv Cv c : sProp 𝕄) := by
  unfold closed opened
  iintro ⟨⟨⟨%κ, #HK⟩, HatB, ⟨Ho0, Ho1, Ho2, Ho3⟩, Hpay, Hget⟩, Hv0, Hv1, Hv2, Hv3⟩
  ihave #HK' := (Entails.of_eq (known_eq Rv Cv κ c)) $$ HK
  icases HK' with ⟨-, #HI0, #HI1, #HI2, #HI3, -⟩
  imod (Rounds.cell_open ER (Rd Rv Cv) (g := s0Cell c) (Set.mem_univ (κ (s0Cell c)))) $$ [Ho0 Hv0] with ⟨Ha0, #Hr0⟩
  · isplitr; · iexact HI0
    isplitl [Ho0] <;> iassumption
  imod (Rounds.cell_open ER (Rd Rv Cv) (g := s1Cell c) (Set.mem_univ (κ (s1Cell c)))) $$ [Ho1 Hv1] with ⟨Ha1, #Hr1⟩
  · isplitr; · iexact HI1
    isplitl [Ho1] <;> iassumption
  imod (Rounds.cell_open ER (Rd Rv Cv) (g := r0Cell c) (Set.mem_univ (κ (r0Cell c)))) $$ [Ho2 Hv2] with ⟨Ha2, #Hr2⟩
  · isplitr; · iexact HI2
    isplitl [Ho2] <;> iassumption
  imod (Rounds.cell_open ER (Rd Rv Cv) (g := r1Cell c) (Set.mem_univ (κ (r1Cell c)))) $$ [Ho3 Hv3] with ⟨Ha3, #Hr3⟩
  · isplitr; · iexact HI3
    isplitl [Ho3] <;> iassumption
  imodintro
  isplitr; · iexists κ; iexact HK
  isplitl [HatB Ha0 Ha1 Ha2 Ha3]
  · isplitl [HatB]; · iexact HatB
    isplitl [Ha0]; · iexact Ha0
    isplitl [Ha1]; · iexact Ha1
    isplitl [Ha2] <;> iassumption
  isplitr
  · isplitr; · iexact Hr0
    isplitr; · iexact Hr1
    isplitr <;> iassumption
  isplitl [Hpay] <;> iassumption

/-- A cell whose only round is over gives its counter back. -/
theorem close (κ : ℕ) (g : GSem nD τ sig) :
    iprop(cellInv ER (Rd (F := F) Rv Cv) κ g ∗ atPos ER g (0 + 1) ∅ 0) ⊢ (|={Set.univ}=> semVal g 0 : sProp 𝕄) :=
  Rounds.cell_close ER (Rd Rv Cv) (Set.mem_univ κ) id (duties_later Rv Cv g)

end Ghost

end Cert.Halo
-- ==== Proof.Cells.lean ====
/-
# Reading and writing through what a view holds

A load out of a rectangle of a view, and a store into one, in the terms of what the view holds. A store lays its payload
over the rectangle and leaves the rest.
-/
module

public import proofs.«01_k».proof.Proof.Protocol

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ UU ℕ

/-- The payload laid over a rectangle of an array. -/
def laid {s : Shape} {T : Type} (r : Rect s) (w : r.shape.Idx → T) (X : s.Idx → T) : s.Idx → T := Function.extend r.emb w X

theorem laid_emb {s : Shape} {T : Type} (r : Rect s) (w : r.shape.Idx → T) (X : s.Idx → T) (y) : laid r w X (r.emb y) = w y :=
  r.emb.injective.extend_apply w X y
theorem laid_off {s : Shape} {T : Type} (r : Rect s) (w : r.shape.Idx → T) (X : s.Idx → T) {i} (h : i ∉ r.set) : laid r w X i = X i :=
  Function.extend_apply' _ _ _ fun ⟨y, hy⟩ => h (by rw [← Rect.map_emb_univ, ← hy]; exact Finset.mem_map_of_mem _ (Finset.mem_univ y))

variable {c : Dev nD} {sp : CoreSpace} {s : Shape} {e : EltTy}

theorem load_owns {α : Type} (m : Memref sig .tc (.core sp) s e) (r : Rect s) (hl : m.view.LoadsAt r.toLoadRect) (q) (X : s.Idx → Elt F e)
    {k : (r.shape.Idx → Elt F e) → Prog (TpuEff nD τ sig (Elt F) Λ₀ .tc) α} {Kt : α → sProp 𝕄} :
    iprop(owns (c : Thread nD τ) m q X ∗ (owns (c : Thread nD τ) m q X
        -∗ wp frame (wpE (defs₀ (F := F)) 𝒱₀ (c : Thread nD τ) none) Set.univ (k fun y => X (r.emb y)) Kt))
      ⊢ wp frame (wpE (defs₀ (F := F)) 𝒱₀ (c : Thread nD τ) none) Set.univ (.op (.load m r.toLoadRect hl) k) Kt := by
  unfold owns
  iintro ⟨⟨%g, %hg, H⟩, Hk⟩
  iapply (show _ ⊢ _ from wp_load_rect 𝒱₀ (c : Thread nD τ) none Set.univ (m := m) (r := r) (hl := hl) (k := k) (S := m.view.set)
    (View.set_slice_subset _ r)) $$ H
  iintro H
  have e : (m.access r).read (Elt F) g = fun y => X (r.emb y) := by subst hg; rfl
  rw [e]
  iapply Hk
  iexists g; isplitr; · ipureintro; exact hg
  iexact H

theorem store_owns {α : Type} (m : Memref sig .tc (.core sp) s e) (r : Rect s) (w : r.shape.Idx → Elt F e) (hx : (m.access r).Stores Finset.univ) (hm) (X : s.Idx → Elt F e)
    {k : PUnit → Prog (TpuEff nD τ sig (Elt F) Λ₀ .tc) α} {Kt : α → sProp 𝕄} :
    iprop(owns (c : Thread nD τ) m fullShare X ∗ (owns (c : Thread nD τ) m fullShare (laid r w X)
        -∗ wp frame (wpE (defs₀ (F := F)) 𝒱₀ (c : Thread nD τ) none) Set.univ (k ⟨⟩) Kt))
      ⊢ wp frame (wpE (defs₀ (F := F)) 𝒱₀ (c : Thread nD τ) none) Set.univ (.op (.store m r w Finset.univ hx hm) k) Kt := by
  unfold owns
  iintro ⟨⟨%g, %hg, H⟩, Hk⟩
  iapply (show _ ⊢ _ from wp_store 𝒱₀ (c : Thread nD τ) none Set.univ (m := m) (r := r) (w := w) (Mk := Finset.univ) (hx := hx) (hm := hm)
    (k := k) (S := m.view.set) (Memref.setOn_access_subset m r _)) $$ H
  iintro H
  iapply Hk
  iexists ((m.access r).write (Elt F) g w Finset.univ); isplitr
  · ipureintro
    funext i
    by_cases h : i ∈ r.set
    · rw [← Rect.map_emb_univ] at h
      obtain ⟨y, -, rfl⟩ := Finset.mem_map.mp h
      rw [laid_emb]
      exact View.read_slice_write_emb r g w (Finset.mem_univ y)
    · rw [laid_off r w X h, ← hg]
      exact View.read_slice_write_of_not_mem r g w Finset.univ (by rw [Rect.map_emb_univ]; exact h)
  iexact H

end Cert.Halo

end
-- ==== Proof.Stencil.lean ====
/-
# One band of the stencil

The second region's body on any whole views: it reads the band, one row of each buffer of neighbouring rows and the two
columns of neighbours, and leaves the output holding five payloads laid one over another: the band's inside, its first and
last column, and at the edge of the square the band's own first or last column and row.
-/
module

public import proofs.«01_k».proof.Proof.Cells

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ UU ℕ

/-! ## What the body leaves -/

abbrev band : Rect S256x4096 := Rect.unit (s := S256x4096) ![0, 0] S256x4096.size inb_S256x4096_S256x4096_0_0
abbrev leftCol : Rect S256x4096 := Rect.unit (s := S256x4096) ![0, 0] S256x1.size inb_S256x4096_S256x1_0_0
abbrev rightCol : Rect S256x4096 := Rect.unit (s := S256x4096) ![0, 4095] S256x1.size inb_S256x4096_S256x1_0_4095
abbrev firstTwo : Rect S256x4096 := Rect.unit (s := S256x4096) ![0, 0] S2x4096.size inb_S256x4096_S2x4096_0_0
abbrev lastTwo : Rect S256x4096 := Rect.unit (s := S256x4096) ![254, 0] S2x4096.size inb_S256x4096_S2x4096_254_0

abbrev Band (F : FTy → Type) := S256x4096.Idx → Elt F .bf16
abbrev Side (F : FTy → Type) := S256x1.Idx → Elt F .bf16
abbrev Line (F : FTy → Type) := S1x4096.Idx → Elt F .bf16

/-- The row of a buffer of neighbouring rows that a band reads. -/
def lineOf (i : grid1.Coords) (U : S16x4096.Idx → Elt F .bf16) : Line F :=
  fun y => U ((Rect.unit (s := S16x4096) (k1_off1 i) S1x4096.size (k1_off1_inb i)).emb y)

def inner (x : Band F) (u d : Line F) (Z : Band F) : Band F := laid band (k1_pay4 x u d) Z
def sides (x : Band F) (u d : Line F) (w e : Side F) (Z : Band F) : Band F :=
  laid rightCol (k1_pay11 (k1_pay1 x) (k1_pay2 x u) (k1_pay3 x d) (k1_pay6 e))
    (laid leftCol (k1_pay10 (k1_pay1 x) (k1_pay5 w) (k1_pay7 x) (k1_pay8 x u) (k1_pay9 x d)) Z)
def keepCol (c : Dev nD) (x : Band F) (Z : Band F) : Band F :=
  if c.val % 2 = 0 then laid leftCol (k1_pay12 (k1_pay1 x)) Z else laid rightCol (k1_pay13 (k1_pay1 x)) Z
def keepFirst (x : Band F) (Z : Band F) : Band F :=
  laid firstTwo (updateSlice (fun y => Z (firstTwo.emb y)) (k1_pay14 (k1_pay1 x)) ![0, 0] slices_S2x4096_S1x4096_0_0) Z
def keepLast (x : Band F) (Z : Band F) : Band F :=
  laid lastTwo (updateSlice (fun y => Z (lastTwo.emb y)) (k1_pay15 (k1_pay1 x)) ![1, 0] slices_S2x4096_S1x4096_1_0) Z
def keepRow (c : Dev nD) (n : Fin 16) (x : Band F) (Z : Band F) : Band F :=
  if ¬ low c ∧ n = 0 then keepFirst x Z else if low c ∧ n = Fin.last 15 then keepLast x Z else Z

/-- Which of the sixteen bands a point of the grid is. -/
abbrev bandNo (i : grid1.Coords) : Fin 16 := ⟨(i 0).val, (i 0).isLt⟩

/-- The body's output over what the output held before. -/
def bandOut (c : Dev nD) (i : grid1.Coords) (x : Band F) (U D : S16x4096.Idx → Elt F .bf16) (w e : Side F) (Z : Band F) : Band F :=
  keepRow c (bandNo i) x (keepCol c x (sides x (lineOf i U) (lineOf i D) w e (inner x (lineOf i U) (lineOf i D) Z)))

/-! ## Which branch a device takes -/

theorem colFirst_iff (c : Dev nD) :
    Scalar.cmpi .ne (Scalar.extui (Scalar.cmpi .eq (Scalar.remsi (Scalar.divsi (Dev.word c) 1#32) 2#32) 0#32)) 0#32 = 1#1 ↔ c.val % 2 = 0 := by
  revert c; decide
theorem colLast_iff (c : Dev nD) :
    Scalar.cmpi .ne (Scalar.extui (Scalar.cmpi .eq (Scalar.remsi (Scalar.divsi (Dev.word c) 1#32) 2#32) 1#32)) 0#32 = 1#1 ↔ ¬ c.val % 2 = 0 := by
  revert c; decide
theorem rowFirst_iff (c : Dev nD) (n : Fin 16) :
    Scalar.cmpi .ne (Scalar.extui (Scalar.andi (Scalar.cmpi .eq (Scalar.remsi (Scalar.divsi (Dev.word c) 2#32) 2#32) 0#32)
      (Scalar.cmpi .eq (BitVec.ofNat 32 n.val) 0#32))) 0#32 = 1#1 ↔ ¬ low c ∧ n = 0 := by
  revert c n; decide
theorem rowLast_iff (c : Dev nD) (n : Fin 16) :
    Scalar.cmpi .ne (Scalar.extui (Scalar.andi (Scalar.cmpi .eq (Scalar.remsi (Scalar.divsi (Dev.word c) 2#32) 2#32) 1#32)
      (Scalar.cmpi .eq (BitVec.ofNat 32 n.val) 15#32))) 0#32 = 1#1 ↔ low c ∧ n = Fin.last 15 := by
  revert c n; decide

/-! ## The body's run -/

theorem load_all {c : Dev nD} {sp : CoreSpace} {s : Shape} {e : EltTy} {α : Type} (m : Memref sig .tc (.core sp) s e)
    {off : Fin s.rank → ℕ} (h0 : ∀ a, off a = 0) (inb) (hl : m.view.LoadsAt (Rect.unit off s.size inb).toLoadRect) (q) (X : s.Idx → Elt F e)
    {k : (s.Idx → Elt F e) → Prog (TpuEff nD τ sig (Elt F) Λ₀ .tc) α} {Kt : α → sProp 𝕄} :
    iprop(owns (c : Thread nD τ) m q X ∗ (owns (c : Thread nD τ) m q X
        -∗ wp frame (wpE (defs₀ (F := F)) 𝒱₀ (c : Thread nD τ) none) Set.univ (k X) Kt))
      ⊢ wp frame (wpE (defs₀ (F := F)) 𝒱₀ (c : Thread nD τ) none) Set.univ (.op (.load m (Rect.unit off s.size inb).toLoadRect hl) k) Kt := by
  have h := load_owns (c := c) m (Rect.unit off s.size inb) hl q X (k := k) (Kt := Kt)
  have e : (fun y => X ((Rect.unit off s.size inb).emb y)) = X := funext fun y => congrArg X (funext fun a => Fin.ext (by
    rw [Rect.emb_apply]; show off a + 1 * (y a).val = (y a).val; rw [h0 a]; omega))
  rw [e] at h
  exact h

theorem load_line {c : Dev nD} (i : grid1.Coords) {α : Type} (m : Memref sig .tc .vmem S16x4096 .bf16)
    (hl : m.view.LoadsAt (Rect.unit (s := S16x4096) (k1_off1 i) S1x4096.size (k1_off1_inb i)).toLoadRect) (q) (X : S16x4096.Idx → Elt F .bf16)
    {k : Line F → Prog (TpuEff nD τ sig (Elt F) Λ₀ .tc) α} {Kt : α → sProp 𝕄} :
    iprop(owns (c : Thread nD τ) m q X ∗ (owns (c : Thread nD τ) m q X
        -∗ wp frame (wpE (defs₀ (F := F)) 𝒱₀ (c : Thread nD τ) none) Set.univ (k (lineOf i X)) Kt))
      ⊢ wp frame (wpE (defs₀ (F := F)) 𝒱₀ (c : Thread nD τ) none) Set.univ
          (.op (.load m (Rect.unit (s := S16x4096) (k1_off1 i) S1x4096.size (k1_off1_inb i)).toLoadRect hl) k) Kt :=
  load_owns (c := c) m _ hl q X (k := k) (Kt := Kt)

theorem zero2 (a : Fin 2) : (![0, 0] : Fin 2 → ℕ) a = 0 := by fin_cases a <;> rfl

variable (c : Dev nD) (i : grid1.Coords)
  (m1 : Memref sig .tc .vmem S256x4096 .bf16) (h1 : m1.IsWhole) (m2 : Memref sig .tc .vmem S16x4096 .bf16) (h2 : m2.IsWhole)
  (m3 : Memref sig .tc .vmem S16x4096 .bf16) (h3 : m3.IsWhole) (m4 : Memref sig .tc .vmem S256x1 .bf16) (h4 : m4.IsWhole)
  (m5 : Memref sig .tc .vmem S256x1 .bf16) (h5 : m5.IsWhole) (m6 : Memref sig .tc .vmem S256x4096 .bf16) (h6 : m6.IsWhole)
  (x : Band F) (U D : S16x4096.Idx → Elt F .bf16) (w e : Side F) (Z : Band F)

set_option maxHeartbeats 1000000 in
theorem compute_run {Kt : _ → sProp 𝕄} :
    iprop((owns (c : Thread nD τ) m1 fullShare x ∗ owns (c : Thread nD τ) m2 fullShare U ∗ owns (c : Thread nD τ) m3 fullShare D
        ∗ owns (c : Thread nD τ) m4 fullShare w ∗ owns (c : Thread nD τ) m5 fullShare e ∗ owns (c : Thread nD τ) m6 fullShare Z)
      ∗ ((owns (c : Thread nD τ) m1 fullShare x ∗ owns (c : Thread nD τ) m2 fullShare U ∗ owns (c : Thread nD τ) m3 fullShare D
        ∗ owns (c : Thread nD τ) m4 fullShare w ∗ owns (c : Thread nD τ) m5 fullShare e
        ∗ owns (c : Thread nD τ) m6 fullShare (inner x (lineOf i U) (lineOf i D) Z))
        -∗ Kt ⟨BitVec.ofNat 32 (i 0).val, Scalar.remsi (Scalar.divsi (Dev.word c) 2#32) 2#32, Scalar.remsi (Scalar.divsi (Dev.word c) 1#32) 2#32,
            k1_pay1 x, k1_pay2 x (lineOf i U), k1_pay3 x (lineOf i D), k1_pay5 w, k1_pay6 e, k1_pay7 x, k1_pay8 x (lineOf i U),
            k1_pay9 x (lineOf i D)⟩))
      ⊢ wp frame (wpE (defs₀ (F := F)) 𝒱₀ (c : Thread nD τ) none) Set.univ
          (k1_part1 (F := F) i m1 h1 m2 h2 m3 h3 m4 h4 m5 h5 m6 h6) Kt := by
  simp only [k1_part1_eq_skeleton]
  unfold k1_part1_skel inner
  simp only [Prog.lift, Prog.bind_op, Prog.bind_ret, Prog.pure_eq_ret, Prog.bind_assoc, wp_deviceId]
  iintro ⟨⟨H1, H2, H3, H4, H5, H6⟩, Hk⟩
  iapply (load_all m1 zero2 _ _ _ x)
  isplitl [H1]; · iexact H1
  iintro H1
  iapply (load_line i m2 _ _ U)
  isplitl [H2]; · iexact H2
  iintro H2
  iapply (load_line i m3 _ _ D)
  isplitl [H3]; · iexact H3
  iintro H3
  iapply (load_owns m6 _ _ _ Z)
  isplitl [H6]; · iexact H6
  iintro H6
  iapply (store_owns m6 _ _ _ _ Z)
  isplitl [H6]; · iexact H6
  iintro H6
  iapply (load_all m4 zero2 _ _ _ w)
  isplitl [H4]; · iexact H4
  iintro H4
  iapply (load_all m5 zero2 _ _ _ e)
  isplitl [H5]; · iexact H5
  iintro H5
  rw [wp_ret]; imodintro
  ihave H := Hk $$ [H1 H2 H3 H4 H5 H6]
  · isplitl [H1]; · iexact H1
    isplitl [H2]; · iexact H2
    isplitl [H3]; · iexact H3
    isplitl [H4]; · iexact H4
    isplitl [H5]; · iexact H5
    iexact H6
  iexact H

set_option maxHeartbeats 1000000 in
theorem edges_run (u d : Line F) {Kt : PUnit → sProp 𝕄} :
    iprop(owns (c : Thread nD τ) m6 fullShare Z
      ∗ (owns (c : Thread nD τ) m6 fullShare (keepRow c (bandNo i) x (keepCol c x (sides x u d w e Z))) -∗ Kt ⟨⟩))
      ⊢ wp frame (wpE (defs₀ (F := F)) 𝒱₀ (c : Thread nD τ) none) Set.univ
          (k1_part2 (F := F) i m1 h1 m2 h2 m3 h3 m4 h4 m5 h5 m6 h6
            (BitVec.ofNat 32 (i 0).val) (Scalar.remsi (Scalar.divsi (Dev.word c) 2#32) 2#32) (Scalar.remsi (Scalar.divsi (Dev.word c) 1#32) 2#32)
            (k1_pay1 x) (k1_pay2 x u) (k1_pay3 x d) (k1_pay5 w) (k1_pay6 e) (k1_pay7 x) (k1_pay8 x u) (k1_pay9 x d)) Kt := by
  rw [k1_part2_eq_skeleton]
  unfold k1_part2_skel storeSubelements sides keepRow keepCol
  by_cases hc : c.val % 2 = 0
  · by_cases hf : ¬ low c ∧ bandNo i = 0
    · have hl : ¬ (low c ∧ bandNo i = Fin.last 15) := fun h => hf.1 h.1
      simp only [dif_pos ((colFirst_iff c).mpr hc), dif_neg (mt (colLast_iff c).mp (not_not.mpr hc)), dif_pos ((rowFirst_iff c (bandNo i)).mpr hf), dif_neg (mt (rowLast_iff c (bandNo i)).mp hl), if_pos hc, if_pos hf,
        Prog.lift, Prog.bind_op, Prog.bind_ret, Prog.pure_eq_ret, Prog.bind_assoc]
      iintro ⟨H6, Hk⟩
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      rw [wp_ret]; imodintro
      iapply Hk
      iexact H6
    by_cases hl : low c ∧ bandNo i = Fin.last 15
    · simp only [dif_pos ((colFirst_iff c).mpr hc), dif_neg (mt (colLast_iff c).mp (not_not.mpr hc)), dif_neg (mt (rowFirst_iff c (bandNo i)).mp hf), dif_pos ((rowLast_iff c (bandNo i)).mpr hl), if_pos hc, if_neg hf, if_pos hl,
        Prog.lift, Prog.bind_op, Prog.bind_ret, Prog.pure_eq_ret, Prog.bind_assoc]
      iintro ⟨H6, Hk⟩
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      rw [wp_ret]; imodintro
      iapply Hk
      iexact H6
    · simp only [dif_pos ((colFirst_iff c).mpr hc), dif_neg (mt (colLast_iff c).mp (not_not.mpr hc)), dif_neg (mt (rowFirst_iff c (bandNo i)).mp hf), dif_neg (mt (rowLast_iff c (bandNo i)).mp hl), if_pos hc, if_neg hf, if_neg hl,
        Prog.lift, Prog.bind_op, Prog.bind_ret, Prog.pure_eq_ret, Prog.bind_assoc]
      iintro ⟨H6, Hk⟩
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      rw [wp_ret]; imodintro
      iapply Hk
      iexact H6
  · by_cases hf : ¬ low c ∧ bandNo i = 0
    · have hl : ¬ (low c ∧ bandNo i = Fin.last 15) := fun h => hf.1 h.1
      simp only [dif_neg (mt (colFirst_iff c).mp hc), dif_pos ((colLast_iff c).mpr hc), dif_pos ((rowFirst_iff c (bandNo i)).mpr hf), dif_neg (mt (rowLast_iff c (bandNo i)).mp hl), if_neg hc, if_pos hf,
        Prog.lift, Prog.bind_op, Prog.bind_ret, Prog.pure_eq_ret, Prog.bind_assoc]
      iintro ⟨H6, Hk⟩
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      rw [wp_ret]; imodintro
      iapply Hk
      iexact H6
    by_cases hl : low c ∧ bandNo i = Fin.last 15
    · simp only [dif_neg (mt (colFirst_iff c).mp hc), dif_pos ((colLast_iff c).mpr hc), dif_neg (mt (rowFirst_iff c (bandNo i)).mp hf), dif_pos ((rowLast_iff c (bandNo i)).mpr hl), if_neg hc, if_neg hf, if_pos hl,
        Prog.lift, Prog.bind_op, Prog.bind_ret, Prog.pure_eq_ret, Prog.bind_assoc]
      iintro ⟨H6, Hk⟩
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      rw [wp_ret]; imodintro
      iapply Hk
      iexact H6
    · simp only [dif_neg (mt (colFirst_iff c).mp hc), dif_pos ((colLast_iff c).mpr hc), dif_neg (mt (rowFirst_iff c (bandNo i)).mp hf), dif_neg (mt (rowLast_iff c (bandNo i)).mp hl), if_neg hc, if_neg hf, if_neg hl,
        Prog.lift, Prog.bind_op, Prog.bind_ret, Prog.pure_eq_ret, Prog.bind_assoc]
      iintro ⟨H6, Hk⟩
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      iapply (load_owns m6 _ _ _ _)
      isplitl [H6]; · iexact H6
      iintro H6
      iapply (store_owns m6 _ _ _ _ _)
      isplitl [H6]; · iexact H6
      iintro H6
      rw [wp_ret]; imodintro
      iapply Hk
      iexact H6

theorem band_run {Kt : PUnit → sProp 𝕄} :
    iprop((owns (c : Thread nD τ) m1 fullShare x ∗ owns (c : Thread nD τ) m2 fullShare U ∗ owns (c : Thread nD τ) m3 fullShare D
        ∗ owns (c : Thread nD τ) m4 fullShare w ∗ owns (c : Thread nD τ) m5 fullShare e ∗ owns (c : Thread nD τ) m6 fullShare Z)
      ∗ ((owns (c : Thread nD τ) m1 fullShare x ∗ owns (c : Thread nD τ) m2 fullShare U ∗ owns (c : Thread nD τ) m3 fullShare D
        ∗ owns (c : Thread nD τ) m4 fullShare w ∗ owns (c : Thread nD τ) m5 fullShare e
        ∗ owns (c : Thread nD τ) m6 fullShare (bandOut c i x U D w e Z)) -∗ Kt ⟨⟩))
      ⊢ wp frame (wpE (defs₀ (F := F)) 𝒱₀ (c : Thread nD τ) none) Set.univ
          (cc1_body (F := F) i m1 h1 m2 h2 m3 h3 m4 h4 m5 h5 m6 h6) Kt := by
  rw [cc1_body_eq_skeleton]
  unfold cc1_body_skel
  simp only [wp_bind]
  iintro ⟨H, Hk⟩
  iapply (compute_run c i m1 h1 m2 h2 m3 h3 m4 h4 m5 h5 m6 h6 x U D w e Z)
  isplitl [H]; · iexact H
  iintro ⟨H1, H2, H3, H4, H5, H6⟩
  iapply (edges_run c i m1 h1 m2 h2 m3 h3 m4 h4 m5 h5 m6 h6 x w e _ _ _)
  isplitl [H6]; · iexact H6
  iintro H6
  rw [Prog.pure_eq_ret, wp_ret]; imodintro
  iapply Hk
  isplitl [H1]; · iexact H1
  isplitl [H2]; · iexact H2
  isplitl [H3]; · iexact H3
  isplitl [H4]; · iexact H4
  isplitl [H5]; · iexact H5
  iexact H6

end Cert.Halo

end
-- ==== Proof.Copies.lean ====
/-
# The local copies of the exchange

Thirty rows of the block are copied into the two buffers of neighbouring rows, fifteen into each. Both families are
written once as a lane: fifteen sources, fifteen destinations, fifteen semaphores. A lane is issued in order and awaited
in order, so its state is a number.
-/
module

public import proofs.«01_k».proof.Proof.Protocol
public import Idealize.ShloMosaic.Lib.SparseCore.ProtocolKit

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_succ bigSep_finUpTo_succ bigSep_finFrom_zero
  bigSep_finFrom_self bigSep_finUpTo_zero bigSep_finUpTo_self)

variable {F : FTy → Type} [FloatOps F]

local notation "𝕄" => MT nD τ sig Unit (Elt F) ℕ UU ℕ

/-- Fifteen row copies, in the order they are issued and awaited. -/
structure Lane where
  src : Fin 15 → Memref sig .tc .hbm S1x1x4096 .bf16
  dst : Fin 15 → Memref sig .tc .vmem S1x1x4096 .bf16
  sem : Fin 15 → DmaSem sig
  credit : ∀ j, (dst j).view.dmaCredit = N

/-- Rows 1 to 15 of the rows above each band: the last row of the band before. -/
abbrev up : Lane where
  src j := xRow ⟨256 * j.val + 255, by have := j.isLt; omega⟩
  dst j := uRow ⟨j.val + 1, by have := j.isLt; omega⟩
  sem := uSem
  credit _ := rfl
/-- Rows 0 to 14 of the rows below each band: the first row of the band after. -/
abbrev dn : Lane where
  src j := xRow ⟨256 * j.val + 256, by have := j.isLt; omega⟩
  dst j := dRow ⟨j.val, by have := j.isLt; omega⟩
  sem := dSem
  credit _ := rfl

section Lane

variable (l : Lane) (c : Dev nD) (A : Fin 15 → S1x1x4096.Idx → Elt F .bf16)

/-- Copy `j` not yet issued, -/
def ready (j : Fin 15) : sProp 𝕄 :=
  iprop(owns (c : Thread nD τ) (l.src j) fullShare (A j) ∗ (∃ Y, owns (c : Thread nD τ) (l.dst j) fullShare Y)
    ∗ semVal ((c : Thread nD τ), .dma (l.sem j)) 0)
/-- in flight, -/
def flying (j : Fin 15) : sProp 𝕄 :=
  Transfers.Flight EC (c : Thread nD τ) (.dma (l.sem j)) () N
    iprop(owns (c : Thread nD τ) (l.dst j) fullShare (A j) ∗ owns (c : Thread nD τ) (l.src j) fullShare (A j))
/-- and landed. -/
def landed (j : Fin 15) : sProp 𝕄 :=
  iprop((owns (c : Thread nD τ) (l.dst j) fullShare (A j) ∗ owns (c : Thread nD τ) (l.src j) fullShare (A j))
    ∗ semVal ((c : Thread nD τ), .dma (l.sem j)) 0)

/-- The first `n` copies issued, -/
def issued (n : ℕ) : sProp 𝕄 := iprop(bigSep (finFrom 15 n) (ready l c A) ∗ bigSep (finUpTo 15 n) (flying l c A))
/-- the first `n` awaited. -/
def awaited (n : ℕ) : sProp 𝕄 := iprop(bigSep (finFrom 15 n) (flying l c A) ∗ bigSep (finUpTo 15 n) (landed l c A))

theorem issued_zero : bigSep Finset.univ (ready l c A) ⊢ (issued l c A 0 : sProp 𝕄) := by
  unfold issued; rw [bigSep_finFrom_zero, bigSep_finUpTo_zero]
  iintro H; isplitl; · iexact H
  iempintro
theorem awaited_zero : (issued l c A 15 : sProp 𝕄) ⊢ awaited l c A 0 := by
  unfold issued awaited; rw [bigSep_finFrom_zero, bigSep_finUpTo_zero, bigSep_finFrom_self, bigSep_finUpTo_self]
  iintro ⟨-, H⟩; isplitl; · iexact H
  iempintro
theorem awaited_all : (awaited l c A 15 : sProp 𝕄) ⊢ bigSep Finset.univ (landed l c A) := by
  unfold awaited; rw [bigSep_finFrom_self, bigSep_finUpTo_self]
  iintro ⟨-, H⟩; iexact H

/-- Issuing copy `j`. -/
theorem issue (j : Fin 15) {α : Type} {k : PUnit → Prog (TpuEff nD τ sig (Elt F) Λ₀ .tc) α} {Kt : α → sProp 𝕄}
    {hs : (l.src j).view.WordExact} {hd : (l.dst j).view.WordExact}
    {ht : DmaTarget.Typed (nD := nD) (τ := τ) (p := .tc) .hbm (.dma (l.sem j)) (.here (l.dst j))} :
    (issued l c A j.val : sProp 𝕄)
      ⊢ iprop((issued l c A (j.val + 1) -∗ wp frame (wpE (defs₀ (F := F)) 𝒱₀ (c : Thread nD τ) none) Set.univ (k ⟨⟩) Kt)
        -∗ wp frame (wpE (defs₀ (F := F)) 𝒱₀ (c : Thread nD τ) none) Set.univ
          (.op (.enqueueDma (l.src j) (.here (l.dst j)) (.dma (l.sem j)) hs hd ht) k) Kt) := by
  unfold issued
  rw [bigSep_finFrom_succ j.isLt, bigSep_finUpTo_succ j.isLt]
  rw [show ready l c A (⟨j.val, j.isLt⟩ : Fin 15) = iprop(owns (c : Thread nD τ) (l.src j) fullShare (A j)
      ∗ (∃ Y, owns (c : Thread nD τ) (l.dst j) fullShare Y) ∗ semVal ((c : Thread nD τ), .dma (l.sem j)) 0) from rfl]
  unfold owns
  iintro ⟨⟨⟨⟨%fs, %hfs, Hs⟩, ⟨%Y, %fd, -, Hd⟩, Hv⟩, Hrest⟩, Hfly⟩ Hk
  iapply (Transfers.wp_dmaLocal EC 𝒱₀ (c : Thread nD τ) none (dst := l.dst j) (sm := .dma (l.sem j)) () N (show (l.dst j).view.amount (.dma (l.sem j)) = N from l.credit j) N_pos (Finset.Subset.refl _)) $$ [Hs Hd Hv]
  · isplitl [Hs]; · iexact Hs
    isplitl [Hd] <;> iassumption
  iintro Hf
  iapply Hk
  isplitl [Hrest]; · iexact Hrest
  isplitl [Hf]
  · unfold flying
    iapply (Transfers.Flight_mono EC _ (D' := iprop(owns (c : Thread nD τ) (l.dst j) fullShare (A j) ∗ owns (c : Thread nD τ) (l.src j) fullShare (A j))) ?_) $$ Hf
    unfold owns
    iintro ⟨Hd, Hs⟩
    isplitl [Hd]
    · iexists _; isplitr; rotate_left; · iexact Hd
      ipureintro
      rw [View.read_write_univ]; exact hfs
    · iexists fs; isplitr; · ipureintro; exact hfs
      iexact Hs
  · iexact Hfly

/-- Awaiting copy `j`. -/
theorem await (j : Fin 15) {α : Type} {k : PUnit → Prog (TpuEff nD τ sig (Elt F) Λ₀ .tc) α} {Kt : α → sProp 𝕄}
    {sp : Space} {sh : Shape} {e : EltTy} {srcw : Memref sig .tc sp sh e}
    {hs : srcw.view.WordExact} {hd : (l.dst j).view.WordExact} :
    iprop(awaited l c A j.val ∗ ∃ W, owes (c : Thread nD τ) 0 W)
      ⊢ iprop(((awaited l c A (j.val + 1) ∗ ∃ W, owes (c : Thread nD τ) 0 W)
          -∗ wp frame (wpE (defs₀ (F := F)) 𝒱₀ (c : Thread nD τ) none) Set.univ (k ⟨⟩) Kt)
        -∗ wp frame (wpE (defs₀ (F := F)) 𝒱₀ (c : Thread nD τ) none) Set.univ
          (.op (.waitDma2 (l.sem j) srcw (l.dst j) hs hd) k) Kt) := by
  unfold awaited
  rw [bigSep_finFrom_succ j.isLt, bigSep_finUpTo_succ j.isLt]
  rw [show flying l c A (⟨j.val, j.isLt⟩ : Fin 15) = Transfers.Flight EC (c : Thread nD τ) (.dma (l.sem j)) () N
    iprop(owns (c : Thread nD τ) (l.dst j) fullShare (A j) ∗ owns (c : Thread nD τ) (l.src j) fullShare (A j)) from rfl]
  iintro ⟨⟨⟨Hf, Hrest⟩, Hdone⟩, ⟨%W, HO⟩⟩ Hk
  iapply (Transfers.wp_waitLocal EC 𝒱₀ (c : Thread nD τ) none () (l.credit j)) $$ [Hf HO]
  · isplitl [Hf] <;> iassumption
  iintro ⟨HD, Hv, HO⟩
  iapply Hk
  isplitr [HO]
  · isplitl [Hrest]; · iexact Hrest
    isplitr [Hdone]
    · unfold landed
      isplitl [HD] <;> iassumption
    · iexact Hdone
  iexists _; iexact HO

end Lane

end Cert.Halo
-- ==== Proof.Rows.lean ====
/-
# Rows of the block and of the two buffers of neighbouring rows

The buffer of the rows above is cut into its first row and the fifteen rows after it; the buffer of the rows below into the
fifteen rows before its last and the last. Of the block, the thirty rows that are copied are cut out and put back. What the
two buffers hold in the end is stated row by row; the one row that a device at the edge of the square leaves unwritten is
left open.
-/
module

public import proofs.«01_k».proof.Proof.Copies

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

theorem mem_row16 (i : Fin 16) (x : S16x1x4096.Idx) : x ∈ (row16 i).set ↔ (x 0).val = i.val := by
  rw [Rect.mem_set_unit]
  constructor
  · intro h
    have h0 := h 0
    simp [S1x1x4096] at h0
    omega
  · intro h a
    have := (x a).isLt
    fin_cases a <;> simp [S16x1x4096, S1x1x4096] at this h ⊢ <;> omega

theorem mem_row4096 (i : Fin 4096) (x : S4096x1x4096.Idx) : x ∈ (row4096 i).set ↔ (x 0).val = i.val := by
  rw [Rect.mem_set_unit]
  constructor
  · intro h
    have h0 := h 0
    simp [S1x1x4096] at h0
    omega
  · intro h a
    have := (x a).isLt
    fin_cases a <;> simp [S4096x1x4096, S1x1x4096] at this h ⊢ <;> omega

theorem rows16_apart (i j : Fin 16) (h : i ≠ j) : Disjoint (row16 i).set (row16 j).set :=
  Finset.disjoint_left.mpr fun x hi hj => h (Fin.ext (((mem_row16 i x).mp hi).symm.trans ((mem_row16 j x).mp hj)))
theorem rows4096_apart (i j : Fin 4096) (h : i ≠ j) : Disjoint (row4096 i).set (row4096 j).set :=
  Finset.disjoint_left.mpr fun x hi hj => h (Fin.ext (((mem_row4096 i x).mp hi).symm.trans ((mem_row4096 j x).mp hj)))
theorem cover_of {T A : Type} [Fintype T] [Fintype A] [DecidableEq A] (f : T → Finset A) (h : ∀ x, ∃ i, x ∈ f i) :
    Finset.univ.biUnion f = Finset.univ :=
  Finset.eq_univ_of_forall fun x => Finset.mem_biUnion.mpr ((h x).elim fun i hi => ⟨i, Finset.mem_univ i, hi⟩)
theorem rows16_all : (Finset.univ : Finset (Fin 16)).biUnion (fun i => (row16 i).set) = Finset.univ :=
  cover_of _ fun x => ⟨x 0, (mem_row16 _ x).mpr rfl⟩
theorem rows4096_all : (Finset.univ : Finset (Fin 4096)).biUnion (fun i => (row4096 i).set) = Finset.univ :=
  cover_of _ fun x => ⟨x 0, (mem_row4096 _ x).mpr rfl⟩

/-! ## Sixteen as one and fifteen -/

theorem first_rest (Φ : Fin 16 → sProp 𝕄) : bigSep Finset.univ Φ = iprop(Φ 0 ∗ bigSep Finset.univ fun j : Fin 15 => Φ j.succ) := by
  rw [show (Finset.univ : Finset (Fin 16)) = insert 0 (Finset.univ.map (Fin.succEmb 15)) from by decide,
    bigSep_insert (by decide), bigSep_map]
  rfl
theorem rest_last (Φ : Fin 16 → sProp 𝕄) :
    bigSep Finset.univ Φ = iprop(Φ (Fin.last 15) ∗ bigSep Finset.univ fun j : Fin 15 => Φ j.castSucc) := by
  rw [show (Finset.univ : Finset (Fin 16)) = insert (Fin.last 15) (Finset.univ.map Fin.castSuccEmb) from by decide,
    bigSep_insert (by decide), bigSep_map]
  rfl

/-! ## The block's rows -/

/-- Row `i` of the block. -/
def rowAt (X : S4096x1x4096.Idx → Elt F .bf16) (i : Fin 4096) : S1x1x4096.Idx → Elt F .bf16 := fun j => X ((row4096 i).emb j)
/-- The row above band `j + 1`, and the row below band `j`. -/
def above (X : S4096x1x4096.Idx → Elt F .bf16) (j : Fin 15) : S1x1x4096.Idx → Elt F .bf16 :=
  rowAt X ⟨256 * j.val + 255, by have := j.isLt; omega⟩
def below (X : S4096x1x4096.Idx → Elt F .bf16) (j : Fin 15) : S1x1x4096.Idx → Elt F .bf16 :=
  rowAt X ⟨256 * j.val + 256, by have := j.isLt; omega⟩

set_option backward.proofsInPublic true in
/-- The thirty rows copied. -/
def copied : Fin 15 ⊕ Fin 15 ↪ Fin 4096 where
  toFun
    | .inl j => ⟨256 * j.val + 255, by have := j.isLt; omega⟩
    | .inr j => ⟨256 * j.val + 256, by have := j.isLt; omega⟩
  inj' a b h := by
    rcases a with a | a <;> rcases b with b | b <;> simp only [Fin.mk.injEq] at h <;> first
      | exact congrArg _ (Fin.ext (by omega))
      | exact absurd h (by omega)

theorem block_rows (c : Dev nD) (X : S4096x1x4096.Idx → Elt F .bf16) :
    (bigSep Finset.univ fun i : Fin 4096 => (owns (c : Thread nD τ) (xRow i) fullShare (rowAt X i) : sProp 𝕄))
    = iprop((bigSep Finset.univ (fun j => owns (c : Thread nD τ) (up.src j) fullShare (above X j))
        ∗ bigSep Finset.univ fun j => owns (c : Thread nD τ) (dn.src j) fullShare (below X j))
      ∗ bigSep (Finset.univ \ Finset.univ.map copied) fun i => owns (c : Thread nD τ) (xRow i) fullShare (rowAt X i)) := by
  rw [bigSep_sdiff_split (Finset.subset_univ (Finset.univ.map copied)), bigSep_map, bigSep_univ_sum]
  rfl

variable [∀ e, Nonempty (Elt F e)]

/-- Cutting the rows to copy out of the block, with the way back. -/
theorem split_block (c : Dev nD) (X : S4096x1x4096.Idx → Elt F .bf16) :
    (owns (c : Thread nD τ) xM fullShare X : sProp 𝕄)
      ⊢ iprop((bigSep Finset.univ (fun j => owns (c : Thread nD τ) (up.src j) fullShare (above X j))
          ∗ bigSep Finset.univ fun j => owns (c : Thread nD τ) (dn.src j) fullShare (below X j))
        ∗ ((bigSep Finset.univ (fun j => owns (c : Thread nD τ) (up.src j) fullShare (above X j))
            ∗ bigSep Finset.univ fun j => owns (c : Thread nD τ) (dn.src j) fullShare (below X j))
          -∗ owns (c : Thread nD τ) xM fullShare X)) := by
  iintro H
  ihave H' := (show (owns (c : Thread nD τ) xM fullShare X : sProp 𝕄)
      ⊢ bigSep Finset.univ fun i : Fin 4096 => owns (c : Thread nD τ) (xRow i) fullShare (rowAt X i) from
    owns_rects (c : Thread nD τ) xM fullShare row4096 (fun _ _ => rfl) rows4096_apart rows4096_all X) $$ H
  ihave H2 := (Entails.of_eq (block_rows c X)) $$ H'
  icases H2 with ⟨Hp, Hrest⟩
  isplitl [Hp]; · iexact Hp
  iintro Hp
  iapply (show (bigSep Finset.univ fun i : Fin 4096 => (owns (c : Thread nD τ) (xRow i) fullShare (rowAt X i) : sProp 𝕄))
      ⊢ owns (c : Thread nD τ) xM fullShare X from
    owns_of_rects (c : Thread nD τ) xM fullShare row4096 (fun _ _ => rfl) rows4096_apart rows4096_all X)
  iapply (Entails.of_eq (block_rows c X).symm)
  isplitl [Hp] <;> iassumption

/-! ## The two buffers -/

theorem at_some {sp : Space} {sh : Shape} (c : Dev nD) (M : Memref sig .tc sp sh .bf16) (Y : sh.Idx → Elt F .bf16) :
    (owns (c : Thread nD τ) M fullShare Y : sProp 𝕄) ⊢ iprop(∃ Y, owns (c : Thread nD τ) M fullShare Y) := by
  iintro H; iexists Y; iexact H

theorem split_up (c : Dev nD) :
    (iprop(∃ Y, owns (c : Thread nD τ) uM fullShare Y) : sProp 𝕄)
      ⊢ iprop((∃ Y, owns (c : Thread nD τ) (uRow 0) fullShare Y) ∗ bigSep Finset.univ fun j => iprop(∃ Y, owns (c : Thread nD τ) (up.dst j) fullShare Y)) := by
  iintro ⟨%Y, H⟩
  ihave H' := (owns_rects (c : Thread nD τ) uM fullShare row16 (fun _ _ => rfl) rows16_apart rows16_all Y) $$ H
  ihave H2 := (Entails.of_eq (first_rest _)) $$ H'
  icases H2 with ⟨H0, Hr⟩
  isplitl [H0]; · iexists _; iexact H0
  iapply (show (bigSep Finset.univ fun j : Fin 15 => (owns (c : Thread nD τ) (up.dst j) fullShare (fun k => Y ((row16 j.succ).emb k)) : sProp 𝕄))
      ⊢ bigSep Finset.univ fun j => iprop(∃ Y, owns (c : Thread nD τ) (up.dst j) fullShare Y) from
    bigSep_mono fun j _ => at_some _ _ _)
  iexact Hr

theorem split_dn (c : Dev nD) :
    (iprop(∃ Y, owns (c : Thread nD τ) dM fullShare Y) : sProp 𝕄)
      ⊢ iprop((∃ Y, owns (c : Thread nD τ) (dRow 15) fullShare Y) ∗ bigSep Finset.univ fun j => iprop(∃ Y, owns (c : Thread nD τ) (dn.dst j) fullShare Y)) := by
  iintro ⟨%Y, H⟩
  ihave H' := (owns_rects (c : Thread nD τ) dM fullShare row16 (fun _ _ => rfl) rows16_apart rows16_all Y) $$ H
  ihave H2 := (Entails.of_eq (rest_last _)) $$ H'
  icases H2 with ⟨H0, Hr⟩
  isplitl [H0]; · iexists _; iexact H0
  iapply (show (bigSep Finset.univ fun j : Fin 15 => (owns (c : Thread nD τ) (dn.dst j) fullShare (fun k => Y ((row16 j.castSucc).emb k)) : sProp 𝕄))
      ⊢ bigSep Finset.univ fun j => iprop(∃ Y, owns (c : Thread nD τ) (dn.dst j) fullShare Y) from
    bigSep_mono fun j _ => at_some _ _ _)
  iexact Hr

/-- What each row of the rows above is to hold: the first is the row received, where one is; the others are the block's. -/
def upRow (c : Dev nD) (X : S4096x1x4096.Idx → Elt F .bf16) (R : S1x1x4096.Idx → Elt F .bf16) (t : Fin 16)
    (Z : S1x1x4096.Idx → Elt F .bf16) : Prop := (∀ j : Fin 15, t = j.succ → Z = above X j) ∧ (t = 0 → low c → Z = R)
/-- The same of the rows below, with the last for the first. -/
def dnRow (c : Dev nD) (X : S4096x1x4096.Idx → Elt F .bf16) (R : S1x1x4096.Idx → Elt F .bf16) (t : Fin 16)
    (Z : S1x1x4096.Idx → Elt F .bf16) : Prop := (∀ j : Fin 15, t = j.castSucc → Z = below X j) ∧ (t = Fin.last 15 → ¬ low c → Z = R)
def upGood (c : Dev nD) (X : S4096x1x4096.Idx → Elt F .bf16) (R : S1x1x4096.Idx → Elt F .bf16) (Y : S16x1x4096.Idx → Elt F .bf16) : Prop :=
  ∀ t, upRow c X R t fun k => Y ((row16 t).emb k)
def dnGood (c : Dev nD) (X : S4096x1x4096.Idx → Elt F .bf16) (R : S1x1x4096.Idx → Elt F .bf16) (Y : S16x1x4096.Idx → Elt F .bf16) : Prop :=
  ∀ t, dnRow c X R t fun k => Y ((row16 t).emb k)

theorem join_up (c : Dev nD) (X : S4096x1x4096.Idx → Elt F .bf16) (R Z : S1x1x4096.Idx → Elt F .bf16) (h : low c → Z = R) :
    iprop(owns (c : Thread nD τ) (uRow 0) fullShare Z ∗ bigSep Finset.univ fun j => owns (c : Thread nD τ) (up.dst j) fullShare (above X j))
      ⊢ (iprop(∃ Y, ⌜upGood c X R Y⌝ ∗ owns (c : Thread nD τ) uM fullShare Y) : sProp 𝕄) := by
  iintro ⟨H0, Hr⟩
  iapply (ownsSat_elim (c : Thread nD τ) uM fullShare (upGood c X R))
  iapply (ownsSat_of_rects (c : Thread nD τ) uM fullShare row16 (fun _ _ => rfl) rows16_apart rows16_all (Ψ := upRow c X R))
  iapply (Entails.of_eq (first_rest _).symm)
  isplitl [H0]
  · iapply (ownsSat_intro (c : Thread nD τ) (uRow 0) fullShare (X := Z) (Φ := upRow c X R 0)
      ⟨fun j hj => absurd hj (Fin.succ_ne_zero j).symm, fun _ hl => h hl⟩)
    iexact H0
  iapply (show (bigSep Finset.univ fun j : Fin 15 => (owns (c : Thread nD τ) (up.dst j) fullShare (above X j) : sProp 𝕄))
      ⊢ bigSep Finset.univ fun j => ownsSat (c : Thread nD τ) (up.dst j) fullShare (upRow c X R j.succ) from
    bigSep_mono fun j _ => ownsSat_intro (c : Thread nD τ) (up.dst j) fullShare (X := above X j) (Φ := upRow c X R j.succ)
      ⟨fun i hi => by rw [Fin.succ_injective _ hi], fun h0 => absurd h0 (Fin.succ_ne_zero j)⟩)
  iexact Hr

theorem join_dn (c : Dev nD) (X : S4096x1x4096.Idx → Elt F .bf16) (R Z : S1x1x4096.Idx → Elt F .bf16) (h : ¬ low c → Z = R) :
    iprop(owns (c : Thread nD τ) (dRow 15) fullShare Z ∗ bigSep Finset.univ fun j => owns (c : Thread nD τ) (dn.dst j) fullShare (below X j))
      ⊢ (iprop(∃ Y, ⌜dnGood c X R Y⌝ ∗ owns (c : Thread nD τ) dM fullShare Y) : sProp 𝕄) := by
  iintro ⟨H0, Hr⟩
  iapply (ownsSat_elim (c : Thread nD τ) dM fullShare (dnGood c X R))
  iapply (ownsSat_of_rects (c : Thread nD τ) dM fullShare row16 (fun _ _ => rfl) rows16_apart rows16_all (Ψ := dnRow c X R))
  iapply (Entails.of_eq (rest_last _).symm)
  isplitl [H0]
  · iapply (ownsSat_intro (c : Thread nD τ) (dRow 15) fullShare (X := Z) (Φ := dnRow c X R (Fin.last 15))
      ⟨fun j hj => absurd hj (Fin.castSucc_lt_last j).ne', fun _ hl => h hl⟩)
    iexact H0
  iapply (show (bigSep Finset.univ fun j : Fin 15 => (owns (c : Thread nD τ) (dn.dst j) fullShare (below X j) : sProp 𝕄))
      ⊢ bigSep Finset.univ fun j => ownsSat (c : Thread nD τ) (dn.dst j) fullShare (dnRow c X R j.castSucc) from
    bigSep_mono fun j _ => ownsSat_intro (c : Thread nD τ) (dn.dst j) fullShare (X := below X j) (Φ := dnRow c X R j.castSucc)
      ⟨fun i hi => by rw [Fin.castSucc_injective _ hi], fun h0 => absurd h0 (Fin.castSucc_lt_last j).ne⟩)
  iexact Hr

end Cert.Halo
-- ==== Proof.Parts.lean ====
/-
# The exchange kernel's parts that only copy locally

The printed kernel is cut into parts. Those before the barrier issue the thirty local copies, those after the edges have
arrived await them: here is what each does to the two lanes.
-/
module

public import proofs.«01_k».proof.Proof.Copies

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (A B : Fin 15 → S1x1x4096.Idx → Elt F .bf16)

theorem part1 (hr hc hx hu hd ho) (Kt : (Σ' (d0 : Dev nD) (v2 : BitVec 32), BitVec 32) → sProp 𝕄) :
    iprop(issued up c A 0
        ∗ (issued up c A 3 -∗ Kt ⟨c, Scalar.remsi (Scalar.divsi (Dev.word c) 2#32) 2#32, Scalar.remsi (Scalar.divsi (Dev.word c) 1#32) 2#32⟩))
      ⊢ wp frame (wpE (defs₀ (F := F)) 𝒱₀ (c : Thread nD τ) none) Set.univ
          (k0_part1 (F := F) rM hr cM hc xM hx uM hu dM hd oM ho cc0_scratch0 cc0_scratch1 cc0_scratch2) Kt := by
  simp only [k0_part1_eq_skeleton]
  unfold k0_part1_skel
  simp only [Prog.lift, Prog.bind_op, Prog.bind_ret, Prog.pure_eq_ret, Prog.bind_assoc, wp_deviceId]
  iintro ⟨H, Hk⟩
  iapply (issue up c A ⟨0, by decide⟩) $$ H
  iintro H
  iapply (issue up c A ⟨1, by decide⟩) $$ H
  iintro H
  iapply (issue up c A ⟨2, by decide⟩) $$ H
  iintro H
  rw [wp_ret]; imodintro
  iapply Hk $$ H

theorem part2 (hr hc hx hu hd ho) (Kt : PUnit → sProp 𝕄) :
    iprop((issued up c A 3)
        ∗ ((issued up c A 8) -∗ Kt ⟨⟩))
      ⊢ wp frame (wpE (defs₀ (F := F)) 𝒱₀ (c : Thread nD τ) none) Set.univ
          (k0_part2 (F := F) rM hr cM hc xM hx uM hu dM hd oM ho cc0_scratch0 cc0_scratch1 cc0_scratch2) Kt := by
  simp only [k0_part2_eq_skeleton]
  unfold k0_part2_skel
  simp only [Prog.lift, Prog.bind_op, Prog.bind_ret, Prog.pure_eq_ret, Prog.bind_assoc]
  iintro ⟨HU, Hk⟩
  iapply (issue up c A ⟨3, by decide⟩) $$ HU
  iintro HU
  iapply (issue up c A ⟨4, by decide⟩) $$ HU
  iintro HU
  iapply (issue up c A ⟨5, by decide⟩) $$ HU
  iintro HU
  iapply (issue up c A ⟨6, by decide⟩) $$ HU
  iintro HU
  iapply (issue up c A ⟨7, by decide⟩) $$ HU
  iintro HU
  rw [wp_ret]; imodintro
  iapply Hk
  iexact HU

theorem part3 (hr hc hx hu hd ho) (Kt : PUnit → sProp 𝕄) :
    iprop((issued up c A 8)
        ∗ ((issued up c A 13) -∗ Kt ⟨⟩))
      ⊢ wp frame (wpE (defs₀ (F := F)) 𝒱₀ (c : Thread nD τ) none) Set.univ
          (k0_part3 (F := F) rM hr cM hc xM hx uM hu dM hd oM ho cc0_scratch0 cc0_scratch1 cc0_scratch2) Kt := by
  simp only [k0_part3_eq_skeleton]
  unfold k0_part3_skel
  simp only [Prog.lift, Prog.bind_op, Prog.bind_ret, Prog.pure_eq_ret, Prog.bind_assoc]
  iintro ⟨HU, Hk⟩
  iapply (issue up c A ⟨8, by decide⟩) $$ HU
  iintro HU
  iapply (issue up c A ⟨9, by decide⟩) $$ HU
  iintro HU
  iapply (issue up c A ⟨10, by decide⟩) $$ HU
  iintro HU
  iapply (issue up c A ⟨11, by decide⟩) $$ HU
  iintro HU
  iapply (issue up c A ⟨12, by decide⟩) $$ HU
  iintro HU
  rw [wp_ret]; imodintro
  iapply Hk
  iexact HU

theorem part4 (hr hc hx hu hd ho) (Kt : PUnit → sProp 𝕄) :
    iprop((issued up c A 13 ∗ issued dn c B 0)
        ∗ ((issued up c A 15 ∗ issued dn c B 2) -∗ Kt ⟨⟩))
      ⊢ wp frame (wpE (defs₀ (F := F)) 𝒱₀ (c : Thread nD τ) none) Set.univ
          (k0_part4 (F := F) rM hr cM hc xM hx uM hu dM hd oM ho cc0_scratch0 cc0_scratch1 cc0_scratch2) Kt := by
  simp only [k0_part4_eq_skeleton]
  unfold k0_part4_skel
  simp only [Prog.lift, Prog.bind_op, Prog.bind_ret, Prog.pure_eq_ret, Prog.bind_assoc]
  iintro ⟨⟨HU, HD⟩, Hk⟩
  iapply (issue up c A ⟨13, by decide⟩) $$ HU
  iintro HU
  iapply (issue up c A ⟨14, by decide⟩) $$ HU
  iintro HU
  iapply (issue dn c B ⟨0, by decide⟩) $$ HD
  iintro HD
  iapply (issue dn c B ⟨1, by decide⟩) $$ HD
  iintro HD
  rw [wp_ret]; imodintro
  iapply Hk
  isplitl [HU]; · iexact HU
  iexact HD

theorem part5 (hr hc hx hu hd ho) (Kt : PUnit → sProp 𝕄) :
    iprop((issued dn c B 2)
        ∗ ((issued dn c B 7) -∗ Kt ⟨⟩))
      ⊢ wp frame (wpE (defs₀ (F := F)) 𝒱₀ (c : Thread nD τ) none) Set.univ
          (k0_part5 (F := F) rM hr cM hc xM hx uM hu dM hd oM ho cc0_scratch0 cc0_scratch1 cc0_scratch2) Kt := by
  simp only [k0_part5_eq_skeleton]
  unfold k0_part5_skel
  simp only [Prog.lift, Prog.bind_op, Prog.bind_ret, Prog.pure_eq_ret, Prog.bind_assoc]
  iintro ⟨HD, Hk⟩
  iapply (issue dn c B ⟨2, by decide⟩) $$ HD
  iintro HD
  iapply (issue dn c B ⟨3, by decide⟩) $$ HD
  iintro HD
  iapply (issue dn c B ⟨4, by decide⟩) $$ HD
  iintro HD
  iapply (issue dn c B ⟨5, by decide⟩) $$ HD
  iintro HD
  iapply (issue dn c B ⟨6, by decide⟩) $$ HD
  iintro HD
  rw [wp_ret]; imodintro
  iapply Hk
  iexact HD

theorem part6 (hr hc hx hu hd ho) (Kt : PUnit → sProp 𝕄) :
    iprop((issued dn c B 7)
        ∗ ((issued dn c B 11) -∗ Kt ⟨⟩))
      ⊢ wp frame (wpE (defs₀ (F := F)) 𝒱₀ (c : Thread nD τ) none) Set.univ
          (k0_part6 (F := F) rM hr cM hc xM hx uM hu dM hd oM ho cc0_scratch0 cc0_scratch1 cc0_scratch2) Kt := by
  simp only [k0_part6_eq_skeleton]
  unfold k0_part6_skel
  simp only [Prog.lift, Prog.bind_op, Prog.bind_ret, Prog.pure_eq_ret, Prog.bind_assoc]
  iintro ⟨HD, Hk⟩
  iapply (issue dn c B ⟨7, by decide⟩) $$ HD
  iintro HD
  iapply (issue dn c B ⟨8, by decide⟩) $$ HD
  iintro HD
  iapply (issue dn c B ⟨9, by decide⟩) $$ HD
  iintro HD
  iapply (issue dn c B ⟨10, by decide⟩) $$ HD
  iintro HD
  rw [wp_ret]; imodintro
  iapply Hk
  iexact HD

theorem part10 (hr hc hx hu hd ho) (Kt : PUnit → sProp 𝕄) :
    iprop((awaited up c A 4 ∗ ∃ W, owes (c : Thread nD τ) 0 W)
        ∗ ((awaited up c A 8 ∗ ∃ W, owes (c : Thread nD τ) 0 W) -∗ Kt ⟨⟩))
      ⊢ wp frame (wpE (defs₀ (F := F)) 𝒱₀ (c : Thread nD τ) none) Set.univ
          (k0_part10 (F := F) rM hr cM hc xM hx uM hu dM hd oM ho cc0_scratch0 cc0_scratch1 cc0_scratch2) Kt := by
  simp only [k0_part10_eq_skeleton]
  unfold k0_part10_skel
  simp only [Prog.lift, Prog.bind_op, Prog.bind_ret, Prog.pure_eq_ret, Prog.bind_assoc]
  iintro ⟨⟨HU, HO⟩, Hk⟩
  iapply (await up c A ⟨4, by decide⟩) $$ [HU HO]
  · isplitl [HU] <;> iassumption
  iintro ⟨HU, HO⟩
  iapply (await up c A ⟨5, by decide⟩) $$ [HU HO]
  · isplitl [HU] <;> iassumption
  iintro ⟨HU, HO⟩
  iapply (await up c A ⟨6, by decide⟩) $$ [HU HO]
  · isplitl [HU] <;> iassumption
  iintro ⟨HU, HO⟩
  iapply (await up c A ⟨7, by decide⟩) $$ [HU HO]
  · isplitl [HU] <;> iassumption
  iintro ⟨HU, HO⟩
  rw [wp_ret]; imodintro
  iapply Hk
  isplitl [HU]; · iexact HU
  iexact HO

theorem part11 (hr hc hx hu hd ho) (Kt : PUnit → sProp 𝕄) :
    iprop((awaited up c A 8 ∗ ∃ W, owes (c : Thread nD τ) 0 W)
        ∗ ((awaited up c A 13 ∗ ∃ W, owes (c : Thread nD τ) 0 W) -∗ Kt ⟨⟩))
      ⊢ wp frame (wpE (defs₀ (F := F)) 𝒱₀ (c : Thread nD τ) none) Set.univ
          (k0_part11 (F := F) rM hr cM hc xM hx uM hu dM hd oM ho cc0_scratch0 cc0_scratch1 cc0_scratch2) Kt := by
  simp only [k0_part11_eq_skeleton]
  unfold k0_part11_skel
  simp only [Prog.lift, Prog.bind_op, Prog.bind_ret, Prog.pure_eq_ret, Prog.bind_assoc]
  iintro ⟨⟨HU, HO⟩, Hk⟩
  iapply (await up c A ⟨8, by decide⟩) $$ [HU HO]
  · isplitl [HU] <;> iassumption
  iintro ⟨HU, HO⟩
  iapply (await up c A ⟨9, by decide⟩) $$ [HU HO]
  · isplitl [HU] <;> iassumption
  iintro ⟨HU, HO⟩
  iapply (await up c A ⟨10, by decide⟩) $$ [HU HO]
  · isplitl [HU] <;> iassumption
  iintro ⟨HU, HO⟩
  iapply (await up c A ⟨11, by decide⟩) $$ [HU HO]
  · isplitl [HU] <;> iassumption
  iintro ⟨HU, HO⟩
  iapply (await up c A ⟨12, by decide⟩) $$ [HU HO]
  · isplitl [HU] <;> iassumption
  iintro ⟨HU, HO⟩
  rw [wp_ret]; imodintro
  iapply Hk
  isplitl [HU]; · iexact HU
  iexact HO

theorem part12 (hr hc hx hu hd ho) (Kt : PUnit → sProp 𝕄) :
    iprop((awaited up c A 13 ∗ awaited dn c B 0 ∗ ∃ W, owes (c : Thread nD τ) 0 W)
        ∗ ((awaited up c A 15 ∗ awaited dn c B 3 ∗ ∃ W, owes (c : Thread nD τ) 0 W) -∗ Kt ⟨⟩))
      ⊢ wp frame (wpE (defs₀ (F := F)) 𝒱₀ (c : Thread nD τ) none) Set.univ
          (k0_part12 (F := F) rM hr cM hc xM hx uM hu dM hd oM ho cc0_scratch0 cc0_scratch1 cc0_scratch2) Kt := by
  simp only [k0_part12_eq_skeleton]
  unfold k0_part12_skel
  simp only [Prog.lift, Prog.bind_op, Prog.bind_ret, Prog.pure_eq_ret, Prog.bind_assoc]
  iintro ⟨⟨HU, HD, HO⟩, Hk⟩
  iapply (await up c A ⟨13, by decide⟩) $$ [HU HO]
  · isplitl [HU] <;> iassumption
  iintro ⟨HU, HO⟩
  iapply (await up c A ⟨14, by decide⟩) $$ [HU HO]
  · isplitl [HU] <;> iassumption
  iintro ⟨HU, HO⟩
  iapply (await dn c B ⟨0, by decide⟩) $$ [HD HO]
  · isplitl [HD] <;> iassumption
  iintro ⟨HD, HO⟩
  iapply (await dn c B ⟨1, by decide⟩) $$ [HD HO]
  · isplitl [HD] <;> iassumption
  iintro ⟨HD, HO⟩
  iapply (await dn c B ⟨2, by decide⟩) $$ [HD HO]
  · isplitl [HD] <;> iassumption
  iintro ⟨HD, HO⟩
  rw [wp_ret]; imodintro
  iapply Hk
  isplitl [HU]; · iexact HU
  isplitl [HD]; · iexact HD
  iexact HO

theorem part13 (hr hc hx hu hd ho) (Kt : PUnit → sProp 𝕄) :
    iprop((awaited dn c B 3 ∗ ∃ W, owes (c : Thread nD τ) 0 W)
        ∗ ((awaited dn c B 7 ∗ ∃ W, owes (c : Thread nD τ) 0 W) -∗ Kt ⟨⟩))
      ⊢ wp frame (wpE (defs₀ (F := F)) 𝒱₀ (c : Thread nD τ) none) Set.univ
          (k0_part13 (F := F) rM hr cM hc xM hx uM hu dM hd oM ho cc0_scratch0 cc0_scratch1 cc0_scratch2) Kt := by
  simp only [k0_part13_eq_skeleton]
  unfold k0_part13_skel
  simp only [Prog.lift, Prog.bind_op, Prog.bind_ret, Prog.pure_eq_ret, Prog.bind_assoc]
  iintro ⟨⟨HD, HO⟩, Hk⟩
  iapply (await dn c B ⟨3, by decide⟩) $$ [HD HO]
  · isplitl [HD] <;> iassumption
  iintro ⟨HD, HO⟩
  iapply (await dn c B ⟨4, by decide⟩) $$ [HD HO]
  · isplitl [HD] <;> iassumption
  iintro ⟨HD, HO⟩
  iapply (await dn c B ⟨5, by decide⟩) $$ [HD HO]
  · isplitl [HD] <;> iassumption
  iintro ⟨HD, HO⟩
  iapply (await dn c B ⟨6, by decide⟩) $$ [HD HO]
  · isplitl [HD] <;> iassumption
  iintro ⟨HD, HO⟩
  rw [wp_ret]; imodintro
  iapply Hk
  isplitl [HD]; · iexact HD
  iexact HO

theorem part14 (hr hc hx hu hd ho) (Kt : PUnit → sProp 𝕄) :
    iprop((awaited dn c B 7 ∗ ∃ W, owes (c : Thread nD τ) 0 W)
        ∗ ((awaited dn c B 12 ∗ ∃ W, owes (c : Thread nD τ) 0 W) -∗ Kt ⟨⟩))
      ⊢ wp frame (wpE (defs₀ (F := F)) 𝒱₀ (c : Thread nD τ) none) Set.univ
          (k0_part14 (F := F) rM hr cM hc xM hx uM hu dM hd oM ho cc0_scratch0 cc0_scratch1 cc0_scratch2) Kt := by
  simp only [k0_part14_eq_skeleton]
  unfold k0_part14_skel
  simp only [Prog.lift, Prog.bind_op, Prog.bind_ret, Prog.pure_eq_ret, Prog.bind_assoc]
  iintro ⟨⟨HD, HO⟩, Hk⟩
  iapply (await dn c B ⟨7, by decide⟩) $$ [HD HO]
  · isplitl [HD] <;> iassumption
  iintro ⟨HD, HO⟩
  iapply (await dn c B ⟨8, by decide⟩) $$ [HD HO]
  · isplitl [HD] <;> iassumption
  iintro ⟨HD, HO⟩
  iapply (await dn c B ⟨9, by decide⟩) $$ [HD HO]
  · isplitl [HD] <;> iassumption
  iintro ⟨HD, HO⟩
  iapply (await dn c B ⟨10, by decide⟩) $$ [HD HO]
  · isplitl [HD] <;> iassumption
  iintro ⟨HD, HO⟩
  iapply (await dn c B ⟨11, by decide⟩) $$ [HD HO]
  · isplitl [HD] <;> iassumption
  iintro ⟨HD, HO⟩
  rw [wp_ret]; imodintro
  iapply Hk
  isplitl [HD]; · iexact HD
  iexact HO

end Cert.Halo
-- ==== Proof.Exchange.lean ====
/-
# The exchange kernel's body

A device signals both partners (handing each the buffer it is to write), waits for both signals, sends its row and its
column, waits for all four ends of its copies, and awaits its local copies.
-/
module

public import proofs.«01_k».proof.Proof.Parts

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which branch a device takes -/

theorem cond1_iff (c : Dev nD) : k0_cond1 c = 1#1 ↔ ¬ low c := by revert c; decide
theorem cond2_iff (c : Dev nD) : k0_cond2 c = 1#1 ↔ low c := by revert c; decide
theorem cond3_iff (c : Dev nD) : Scalar.cmpi .ne (Scalar.extui (Scalar.cmpi .eq (Scalar.remsi (Scalar.divsi (Dev.word c) 2#32) 2#32) 0#32)) 0#32 = 1#1 ↔ ¬ low c := by
  revert c; decide
theorem cond4_iff (c : Dev nD) : Scalar.cmpi .ne (Scalar.extui (Scalar.cmpi .eq (Scalar.remsi (Scalar.divsi (Dev.word c) 2#32) 2#32) 1#32)) 0#32 = 1#1 ↔ low c := by
  revert c; decide
theorem dev3_eq (c : Dev nD) (h) : (⟨k0_dev3 c, k0_dev3_lt c h⟩ : Dev nD) = xn c :=
  Fin.ext ((k0_dev3_eq c).trans (by clear h; revert c; decide))
theorem dev4_eq (c : Dev nD) (h) : (⟨k0_dev4 c, k0_dev4_lt c h⟩ : Dev nD) = xn c :=
  Fin.ext ((k0_dev4_eq c).trans (by clear h; revert c; decide))

section Steps

variable (Rv : Dev nD → S1x1x4096.Idx → Elt F .bf16) (Cv : Dev nD → S32x128.Idx → Elt F .bf16)
variable (κ : GSem nD τ sig → ℕ) (c : Dev nD)

/-- Sending the row: to the row of `xn c` it lends, its landing paid with that row at what was sent. -/
theorem send_row {n : Dev nD} (hn : n = xn c) {dst : Memref sig .tc .vmem S1x1x4096 .bf16} (ht : dst = tgt (xn c))
    {hsc : (dst : Memref sig (Dev.tc n : Thread nD τ).2.kind .vmem S1x1x4096 .bf16).view.ref.isScScratch = false}
    {hsrc : (rM : Memref sig .tc .vmem S1x1x4096 .bf16).view.WordExact} {hdst : dst.view.WordExact}
    {hsem : DmaTarget.Typed .vmem (.dma r0) (.remote (Dev.tc n : Thread nD τ) (dst : Memref sig .tc .vmem S1x1x4096 .bf16) (.dma s0) hsc)}
    {α : Type} {k : PUnit → Prog (TpuEff nD τ sig (Elt F) Λ₀ .tc) α} {Kt : α → sProp 𝕄} :
    iprop(known Rv Cv κ c ∗ owns (c : Thread nD τ) rM fullShare (Rv c) ∗ (∃ Y, owns (xn c : Thread nD τ) (tgt (xn c)) fullShare Y)
        ∗ (∃ W, owes (c : Thread nD τ) (Oc c) W) ∗ dutyTok ER (s0Cell c) 0 false ∗ reached ER (s0Cell c) 0
        ∗ dutyTok ER (r0Cell (xn c)) 0 false ∗ reached ER (r0Cell (xn c)) 0)
      ⊢ iprop(((cred (tallyAt (s0Cell c) () N) ∗ ∃ W, owes (c : Thread nD τ) (tallyAt (r1Cell (yn c)) () N) W)
            -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma rM (.remote (Dev.tc n : Thread nD τ) (dst : Memref sig .tc .vmem S1x1x4096 .bf16) (.dma s0) hsc) (.dma r0) hsrc hdst hsem) k) Kt) := by
  subst hn ht
  unfold known owns
  iintro ⟨⟨-, #HI1, -, -, -, -, -, #HI2, -⟩, ⟨%fs, %hfs, Hs⟩, ⟨%Y, %fd, -, Hd⟩, ⟨%W, HO⟩, Ht1, #Hr1, Ht2, #Hr2⟩ Hk
  iapply (Rounds.wp_send_pointsTo 𝒱₀ ER (Rd Rv Cv) (c : Thread nD τ) none (c' := (xn c : Thread nD τ)) (src := rM) (dst := tgt (xn c)) (sS := .dma s0) (sem := .dma r0) (κ₁ := κ (s0Cell c)) (κ₂ := κ (r0Cell (xn c)))
    (r₁ := 0) (r₂ := 0) (d₁ := false) (d₂ := false) (fs := fs) (fd := fd) (q := fullShare)
    (by rw [duties_dma Rv Cv c (isDma_s0 c)]; exact Finset.mem_singleton_self _)
    (by rw [duties_dma Rv Cv (xn c) (isDma_r0 _)]; exact Finset.mem_singleton_self _)
    () () N (show (tgt (xn c)).view.amount (.dma r0) = N from credit_tgt (xn c)) (amount_dma Rv Cv c s0 false) (amount_dma Rv Cv (xn c) r0 false)
    (tallyAt (r1Cell (yn c)) () N) rfl (W := W)
    (by rw [payload_s0]; unfold s0Pay; rw [← hfs]; exact owns_intro _ _ _ _)
    (by rw [payload_r0]; unfold r0Pay; rw [xn_xn, ← hfs]
        refine (owns_intro _ _ _ _).trans (Entails.of_eq ?_)
        rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Sending the column. -/
theorem send_col {n : Dev nD} (hn : n = yn c)
    {hsc : (oM : Memref sig (Dev.tc n : Thread nD τ).2.kind .vmem S32x128 .bf16).view.ref.isScScratch = false}
    {hsrc : (cM : Memref sig .tc .vmem S32x128 .bf16).view.WordExact} {hdst : (oM : Memref sig .tc .vmem S32x128 .bf16).view.WordExact}
    {hsem : DmaTarget.Typed .vmem (.dma r1) (.remote (Dev.tc n : Thread nD τ) (oM : Memref sig .tc .vmem S32x128 .bf16) (.dma s1) hsc)}
    {α : Type} {k : PUnit → Prog (TpuEff nD τ sig (Elt F) Λ₀ .tc) α} {Kt : α → sProp 𝕄} :
    iprop(known Rv Cv κ c ∗ owns (c : Thread nD τ) cM fullShare (Cv c) ∗ (∃ Y, owns (yn c : Thread nD τ) oM fullShare Y)
        ∗ (∃ W, owes (c : Thread nD τ) (tallyAt (r1Cell (yn c)) () N) W) ∗ dutyTok ER (s1Cell c) 0 false ∗ reached ER (s1Cell c) 0
        ∗ dutyTok ER (r1Cell (yn c)) 0 false ∗ reached ER (r1Cell (yn c)) 0)
      ⊢ iprop(((cred (tallyAt (s1Cell c) () N) ∗ ∃ W, owes (c : Thread nD τ) 0 W)
            -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma cM (.remote (Dev.tc n : Thread nD τ) (oM : Memref sig .tc .vmem S32x128 .bf16) (.dma s1) hsc) (.dma r1) hsrc hdst hsem) k) Kt) := by
  subst hn
  unfold known owns
  iintro ⟨⟨-, -, #HI1, -, -, -, -, -, #HI2, -⟩, ⟨%fs, %hfs, Hs⟩, ⟨%Y, %fd, -, Hd⟩, ⟨%W, HO⟩, Ht1, #Hr1, Ht2, #Hr2⟩ Hk
  iapply (Rounds.wp_send_pointsTo 𝒱₀ ER (Rd Rv Cv) (c : Thread nD τ) none (c' := (yn c : Thread nD τ)) (src := cM) (dst := oM) (sS := .dma s1) (sem := .dma r1) (κ₁ := κ (s1Cell c)) (κ₂ := κ (r1Cell (yn c)))
    (r₁ := 0) (r₂ := 0) (d₁ := false) (d₂ := false) (fs := fs) (fd := fd) (q := fullShare)
    (by rw [duties_dma Rv Cv c (isDma_s1 c)]; exact Finset.mem_singleton_self _)
    (by rw [duties_dma Rv Cv (yn c) (isDma_r1 _)]; exact Finset.mem_singleton_self _)
    () () N (show (oM : Memref sig .tc .vmem S32x128 .bf16).view.amount (.dma r1) = N from credit_col) (amount_dma Rv Cv c s1 false) (amount_dma Rv Cv (yn c) r1 false)
    0 (by rw [zero_add]) (W := W)
    (by rw [payload_s1]; unfold s1Pay; rw [← hfs]; exact owns_intro _ _ _ _)
    (by rw [payload_r1]; unfold r1Pay; rw [yn_yn, ← hfs]
        refine (owns_intro _ _ _ _).trans (Entails.of_eq ?_)
        rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Waiting, with nothing owed, for the one payment of a transfer cell. -/
theorem wait_dma {s : DmaSem sig} (h : IsDma ((c : Thread nD τ), .dma s)) {P : sProp 𝕄}
    (hP : (Rd Rv Cv).payload ((c : Thread nD τ), .dma s) 0 false = P)
    {sp sp' : Space} {sh sh' : Shape} {e e' : EltTy} {srcw : Memref sig .tc sp sh e} {dstw : Memref sig .tc sp' sh' e'}
    {hs : srcw.view.WordExact} {hd : dstw.view.WordExact} (hN : dstw.view.dmaCredit = N)
    {α : Type} {k : PUnit → Prog (TpuEff nD τ sig (Elt F) Λ₀ .tc) α} {Kt : α → sProp 𝕄} :
    iprop(cellInv ER (Rd Rv Cv) (κ ((c : Thread nD τ), .dma s)) ((c : Thread nD τ), .dma s)
        ∗ cred (tallyAt ((c : Thread nD τ), .dma s) () N) ∗ (∃ W, owes (c : Thread nD τ) 0 W)
        ∗ atPos ER ((c : Thread nD τ), .dma s) 0 ∅ 0)
      ⊢ iprop((((∃ W, owes (c : Thread nD τ) 0 W) ∗ atPos ER ((c : Thread nD τ), .dma s) (0 + 1) ∅ 0 ∗ P)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 s srcw dstw hs hd) k) Kt) := by
  iintro ⟨#HI, Hc, ⟨%W, HO⟩, Hat⟩ Hk
  iapply (Rounds.wp_wait_rest_token 𝒱₀ ER (Rd Rv Cv) (c : Thread nD τ) none (κ := κ ((c : Thread nD τ), .dma s)) (sm := .dma s) (k' := N)
      (fun K => by rw [← hN]; exact wpE_waitDma2_eq 𝒱₀ (c : Thread nD τ) none Set.univ K) (Set.mem_univ _) () (O := 0) (W := W) (R := 0) (m := 0) (T := ∅)
      ((Nat.zero_add _).trans (expect_dma Rv Cv c h).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave HP := (Entails.of_eq ((rest_dma Rv Cv c h).trans hP)) $$ Hpay
  iapply Hk
  isplitl [HO]; · iexists _; iexact HO
  isplitl [Hat] <;> iassumption

end Steps

theorem credit_sent : (cM : Memref sig .tc .vmem S32x128 .bf16).view.dmaCredit = N := by decide

/-! ## The parts that talk -/

section Talk

variable (Rv : Dev nD → S1x1x4096.Idx → Elt F .bf16) (Cv : Dev nD → S32x128.Idx → Elt F .bf16)
variable (κ : GSem nD τ sig → ℕ) (c : Dev nD) (A B : Fin 15 → S1x1x4096.Idx → Elt F .bf16)

/-- The last four local copies issued, and the partner in the first direction signalled. -/
theorem part7 (hr hc hx hu hd ho) (v2 v5 : BitVec 32) (Kt : (Σ' (v126 : Sems sig S_) (v128 : BitVec 32), BitVec 32) → sProp 𝕄) :
    iprop((issued dn c B 11 ∗ known Rv Cv κ c ∗ dutyTok ER (barCell (xn c)) 0 false ∗ (∃ Y, owns (c : Thread nD τ) (tgt c) fullShare Y)
          ∗ reached ER (r0Cell c) 0 ∗ ∃ W, owes (c : Thread nD τ) (O₀ c) W)
        ∗ ((issued dn c B 15 ∗ ∃ W, owes (c : Thread nD τ) (Oc c + tallyAt (barCell (yn c)) () 1) W)
          -∗ Kt ⟨SemArray.scalar (sig.barrier 0 rfl), Scalar.subi 1#32 v5, Scalar.addi 0#32 (Scalar.muli v2 2#32)⟩))
      ⊢ wp frame (wpE (defs₀ (F := F)) 𝒱₀ (c : Thread nD τ) none) Set.univ
          (k0_part7 (F := F) rM hr cM hc xM hx uM hu dM hd oM ho cc0_scratch0 cc0_scratch1 cc0_scratch2 c v2 v5) Kt := by
  simp only [k0_part7_eq_skeleton]
  unfold k0_part7_skel
  simp only [semSignalWord, Prog.lift, Prog.bind_op, Prog.bind_ret, Prog.pure_eq_ret, Prog.bind_assoc, dev1_eq]
  unfold known
  iintro ⟨⟨HD, ⟨-, -, -, -, -, #HI, -, -, -, #HrX, -⟩, Ht, ⟨%Y, Htg⟩, #Hr, ⟨%W, HO⟩⟩, Hk⟩
  iapply (issue dn c B ⟨11, by decide⟩) $$ HD
  iintro HD
  iapply (issue dn c B ⟨12, by decide⟩) $$ HD
  iintro HD
  iapply (issue dn c B ⟨13, by decide⟩) $$ HD
  iintro HD
  iapply (issue dn c B ⟨14, by decide⟩) $$ HD
  iintro HD
  unfold O₀
  iapply (Rounds.wp_signal 𝒱₀ ER (Rd Rv Cv) (c : Thread nD τ) none (dst := (xn c : Thread nD τ)) (κ := κ (barCell (xn c)))
      (d := false) (by rw [duties_bar]; exact Finset.mem_univ _) ((amount_bar Rv Cv (xn c) false).trans (by decide)) ()
      (Oc c + tallyAt (barCell (yn c)) () 1) rfl)
    $$ [HO Ht Htg]
  · isplitr; · iexact HI
    isplitl [HO]; · iexact HO
    isplitl [Ht]; · iexact Ht
    isplitl [Htg]
    · rw [payload_barX]; unfold barPayX; rw [xn_xn]
      isplitl [Htg]; · iexists Y; iexact Htg
      iexact Hr
    · iexact HrX
  iintro HO
  rw [wp_ret]; imodintro
  iapply Hk
  isplitl [HD]; · iexact HD
  iexists W; iexact HO

/-- What the middle part works with, -/
def talkPre : sProp 𝕄 :=
  iprop((known Rv Cv κ c ∗ levAts L lv ∗ reached ER (s0Cell c) 0 ∗ reached ER (s1Cell c) 0 ∗ reached ER (r1Cell c) 0)
    ∗ (dutyTok ER (barCell (yn c)) 0 true ∗ dutyTok ER (r0Cell (xn c)) 0 false ∗ dutyTok ER (r1Cell (yn c)) 0 false
      ∗ dutyTok ER (s0Cell c) 0 false ∗ dutyTok ER (s1Cell c) 0 false)
    ∗ (cred (tallyAt (barCell c) () 2) ∗ cred (tallyAt (r0Cell c) () N))
    ∗ (atPos ER (barCell c) 0 ∅ 0 ∗ atPos ER (s0Cell c) 0 ∅ 0 ∗ atPos ER (s1Cell c) 0 ∅ 0 ∗ atPos ER (r0Cell c) 0 ∅ 0)
    ∗ (owns (c : Thread nD τ) rM fullShare (Rv c) ∗ owns (c : Thread nD τ) cM fullShare (Cv c) ∗ ∃ Y, owns (c : Thread nD τ) oM fullShare Y)
    ∗ ∃ W, owes (c : Thread nD τ) (Oc c + tallyAt (barCell (yn c)) () 1) W)

/-- and what it leaves: the row from `xn c` has landed, and everything is paid. -/
def talkPost : sProp 𝕄 :=
  iprop((atPos ER (barCell c) (0 + 1) ∅ 0 ∗ atPos ER (s0Cell c) (0 + 1) ∅ 0 ∗ atPos ER (s1Cell c) (0 + 1) ∅ 0 ∗ atPos ER (r0Cell c) (0 + 1) ∅ 0)
    ∗ (owns (c : Thread nD τ) rM fullShare (Rv c) ∗ owns (c : Thread nD τ) cM fullShare (Cv c)
      ∗ owns (c : Thread nD τ) (tgt c) fullShare (Rv (xn c)))
    ∗ ∃ W, owes (c : Thread nD τ) 0 W)

theorem part8 (hr hc hx hu hd ho) (v128 v134 : BitVec 32) (Kt : (Σ' (v143 : BitVec 32) (v161 : BitVec 32), BitVec 32) → sProp 𝕄) :
    iprop(talkPre Rv Cv κ c ∗ (∀ v, talkPost Rv Cv c -∗ Kt v))
      ⊢ wp frame (wpE (defs₀ (F := F)) 𝒱₀ (c : Thread nD τ) none) Set.univ
          (k0_part8 (F := F) rM hr cM hc xM hx uM hu dM hd oM ho cc0_scratch0 cc0_scratch1 cc0_scratch2 c
            (Scalar.remsi (Scalar.divsi (Dev.word c) 2#32) 2#32) (Scalar.remsi (Scalar.divsi (Dev.word c) 1#32) 2#32)
            (SemArray.scalar (sig.barrier 0 rfl)) v128 v134) Kt := by
  simp only [k0_part8_eq_skeleton]
  unfold k0_part8_skel
  simp only [semSignalWord, semWaitWord, Prog.lift, Prog.bind_op, Prog.bind_ret, Prog.pure_eq_ret, Prog.bind_assoc, dev2_eq]
  unfold talkPre talkPost
  iintro ⟨⟨⟨#HK, #Hlev, #HrS0, #HrS1, #HrV1⟩, ⟨HtB, HtR0, HtR1, HtS0, HtS1⟩, ⟨HcB, HcR0⟩, ⟨HaB, HaS0, HaS1, HaR0⟩, ⟨Hr, Hc, ⟨%Yo, Ho⟩⟩, ⟨%W, HO⟩⟩, Hk⟩
  ihave #HK' := (Entails.of_eq (known_eq Rv Cv κ c)) $$ HK
  icases HK' with ⟨#HIb, #HIs0, #HIs1, #HIr0, #HIr1, #HIbX, #HIbY, #HIr0X, #HIr1Y, #HrBX, #HrBY⟩
  iapply (Rounds.wp_signal 𝒱₀ ER (Rd Rv Cv) (c : Thread nD τ) none (dst := (yn c : Thread nD τ)) (κ := κ (barCell (yn c)))
      (d := true) (by rw [duties_bar]; exact Finset.mem_univ _) ((amount_bar Rv Cv (yn c) true).trans (by decide)) ()
      (Oc c) rfl)
    $$ [HO HtB Ho]
  · isplitr; · iexact HIbY
    isplitl [HO]; · iexact HO
    isplitl [HtB]; · iexact HtB
    isplitl [Ho]
    · rw [payload_barY]; unfold barPayY; rw [yn_yn]
      isplitl [Ho]; · iexists Yo; iexact Ho
      iexact HrV1
    · iexact HrBY
  iintro HO
  iapply (Rounds.wp_wait_rest_token 𝒱₀ ER (Rd Rv Cv) (c : Thread nD τ) none (κ := κ (barCell c))
      (wpE_semWait_eq 𝒱₀ (c : Thread nD τ) none Set.univ) (Set.mem_univ _) () (O := Oc c) (W := W) (R := 0) (m := 0) (T := ∅)
      ((Nat.zero_add 2).trans (expect_bar Rv Cv c).symm)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar Rv Cv c)) $$ Hpay
  unfold barPayX barPayY
  icases Hp with ⟨⟨HdX, #HrX⟩, HdY, #HrY⟩
  by_cases hl : low c
  · simp only [dif_neg (mt (cond1_iff c).mp (not_not.mpr hl)), dif_pos ((cond2_iff c).mpr hl),
      dif_neg (mt (cond3_iff c).mp (not_not.mpr hl)), dif_pos ((cond4_iff c).mpr hl),
      Prog.bind_op, Prog.bind_ret, Prog.pure_eq_ret, Prog.bind_assoc]
    iapply (send_row Rv Cv κ c (dev4_eq c ((cond2_iff c).mpr hl)) ((tgt_high (mt (low_xn c).mp (not_not.mpr hl))).symm)) $$ [Hr HdX HO HtS0 HtR0]
    · isplitr; · iexact HK
      isplitl [Hr]; · iexact Hr
      isplitl [HdX]; · iexact HdX
      isplitl [HO]; · iexists _; iexact HO
      isplitl [HtS0]; · iexact HtS0
      isplitr; · iexact HrS0
      isplitl [HtR0]; · iexact HtR0
      iexact HrX
    iintro ⟨HcS0, HO⟩
    iapply (send_col Rv Cv κ c (dev5_eq c)) $$ [Hc HdY HO HtS1 HtR1]
    · isplitr; · iexact HK
      isplitl [Hc]; · iexact Hc
      isplitl [HdY]; · iexact HdY
      isplitl [HO]; · iexact HO
      isplitl [HtS1]; · iexact HtS1
      isplitr; · iexact HrS1
      isplitl [HtR1]; · iexact HtR1
      iexact HrY
    iintro ⟨HcS1, HO⟩
    iapply (wait_dma Rv Cv κ c (s := s0) (isDma_s0 c) (payload_s0 Rv Cv c false) rfl) $$ [HcS0 HO HaS0]
    · isplitr; · iexact HIs0
      isplitl [HcS0]; · iexact HcS0
      isplitl [HO]; · iexact HO
      iexact HaS0
    iintro ⟨HO, HaS0, Hr⟩
    iapply (wait_dma Rv Cv κ c (s := r0) (isDma_r0 c) (payload_r0 Rv Cv c false) (credit_dRow 15)) $$ [HcR0 HO HaR0]
    · isplitr; · iexact HIr0
      isplitl [HcR0]; · iexact HcR0
      isplitl [HO]; · iexact HO
      iexact HaR0
    iintro ⟨HO, HaR0, Ht⟩
    iapply (wait_dma Rv Cv κ c (s := s1) (isDma_s1 c) (payload_s1 Rv Cv c false) credit_sent) $$ [HcS1 HO HaS1]
    · isplitr; · iexact HIs1
      isplitl [HcS1]; · iexact HcS1
      isplitl [HO]; · iexact HO
      iexact HaS1
    iintro ⟨HO, HaS1, Hc⟩
    rw [wp_ret]; imodintro
    iapply Hk
    isplitl [HaB HaS0 HaS1 HaR0]
    · isplitl [HaB]; · iexact HaB
      isplitl [HaS0]; · iexact HaS0
      isplitl [HaS1] <;> iassumption
    isplitr [HO]
    · unfold s0Pay s1Pay r0Pay
      isplitl [Hr]; · iexact Hr
      isplitl [Hc] <;> iassumption
    iexact HO
  · simp only [dif_pos ((cond1_iff c).mpr hl), dif_neg (mt (cond2_iff c).mp hl),
      dif_pos ((cond3_iff c).mpr hl), dif_neg (mt (cond4_iff c).mp hl),
      Prog.bind_op, Prog.bind_ret, Prog.pure_eq_ret, Prog.bind_assoc]
    iapply (send_row Rv Cv κ c (dev3_eq c ((cond1_iff c).mpr hl)) ((tgt_low ((low_xn c).mpr hl)).symm)) $$ [Hr HdX HO HtS0 HtR0]
    · isplitr; · iexact HK
      isplitl [Hr]; · iexact Hr
      isplitl [HdX]; · iexact HdX
      isplitl [HO]; · iexists _; iexact HO
      isplitl [HtS0]; · iexact HtS0
      isplitr; · iexact HrS0
      isplitl [HtR0]; · iexact HtR0
      iexact HrX
    iintro ⟨HcS0, HO⟩
    iapply (send_col Rv Cv κ c (dev5_eq c)) $$ [Hc HdY HO HtS1 HtR1]
    · isplitr; · iexact HK
      isplitl [Hc]; · iexact Hc
      isplitl [HdY]; · iexact HdY
      isplitl [HO]; · iexact HO
      isplitl [HtS1]; · iexact HtS1
      isplitr; · iexact HrS1
      isplitl [HtR1]; · iexact HtR1
      iexact HrY
    iintro ⟨HcS1, HO⟩
    iapply (wait_dma Rv Cv κ c (s := s0) (isDma_s0 c) (payload_s0 Rv Cv c false) rfl) $$ [HcS0 HO HaS0]
    · isplitr; · iexact HIs0
      isplitl [HcS0]; · iexact HcS0
      isplitl [HO]; · iexact HO
      iexact HaS0
    iintro ⟨HO, HaS0, Hr⟩
    iapply (wait_dma Rv Cv κ c (s := r0) (isDma_r0 c) (payload_r0 Rv Cv c false) (credit_uRow 0)) $$ [HcR0 HO HaR0]
    · isplitr; · iexact HIr0
      isplitl [HcR0]; · iexact HcR0
      isplitl [HO]; · iexact HO
      iexact HaR0
    iintro ⟨HO, HaR0, Ht⟩
    iapply (wait_dma Rv Cv κ c (s := s1) (isDma_s1 c) (payload_s1 Rv Cv c false) credit_sent) $$ [HcS1 HO HaS1]
    · isplitr; · iexact HIs1
      isplitl [HcS1]; · iexact HcS1
      isplitl [HO]; · iexact HO
      iexact HaS1
    iintro ⟨HO, HaS1, Hc⟩
    rw [wp_ret]; imodintro
    iapply Hk
    isplitl [HaB HaS0 HaS1 HaR0]
    · isplitl [HaB]; · iexact HaB
      isplitl [HaS0]; · iexact HaS0
      isplitl [HaS1] <;> iassumption
    isplitr [HO]
    · unfold s0Pay s1Pay r0Pay
      isplitl [Hr]; · iexact Hr
      isplitl [Hc] <;> iassumption
    iexact HO

/-- The column from `yn c` awaited, and the first four local copies. -/
theorem part9 (hr hc hx hu hd ho) (v143 v161 w : BitVec 32) (Kt : PUnit → sProp 𝕄) :
    iprop((known Rv Cv κ c ∗ cred (tallyAt (r1Cell c) () N) ∗ atPos ER (r1Cell c) 0 ∅ 0 ∗ awaited up c A 0
          ∗ ∃ W, owes (c : Thread nD τ) 0 W)
        ∗ ((atPos ER (r1Cell c) (0 + 1) ∅ 0 ∗ owns (c : Thread nD τ) oM fullShare (Cv (yn c)) ∗ awaited up c A 4
          ∗ ∃ W, owes (c : Thread nD τ) 0 W) -∗ Kt ⟨⟩))
      ⊢ wp frame (wpE (defs₀ (F := F)) 𝒱₀ (c : Thread nD τ) none) Set.univ
          (k0_part9 (F := F) rM hr cM hc xM hx uM hu dM hd oM ho cc0_scratch0 cc0_scratch1 cc0_scratch2 v143 v161 w) Kt := by
  simp only [k0_part9_eq_skeleton]
  unfold k0_part9_skel
  simp only [Prog.lift, Prog.bind_op, Prog.bind_ret, Prog.pure_eq_ret, Prog.bind_assoc]
  unfold known
  iintro ⟨⟨⟨-, -, -, -, #HI, -⟩, Hc, Ha, HU, HO⟩, Hk⟩
  iapply (wait_dma Rv Cv κ c (s := r1) (isDma_r1 c) (payload_r1 Rv Cv c false) credit_col) $$ [Hc HO Ha]
  · isplitr; · iexact HI
    isplitl [Hc]; · iexact Hc
    isplitl [HO] <;> iassumption
  iintro ⟨HO, Ha, Ho⟩
  iapply (await up c A ⟨0, by decide⟩) $$ [HU HO]
  · isplitl [HU] <;> iassumption
  iintro ⟨HU, HO⟩
  iapply (await up c A ⟨1, by decide⟩) $$ [HU HO]
  · isplitl [HU] <;> iassumption
  iintro ⟨HU, HO⟩
  iapply (await up c A ⟨2, by decide⟩) $$ [HU HO]
  · isplitl [HU] <;> iassumption
  iintro ⟨HU, HO⟩
  iapply (await up c A ⟨3, by decide⟩) $$ [HU HO]
  · isplitl [HU] <;> iassumption
  iintro ⟨HU, HO⟩
  rw [wp_ret]; imodintro
  iapply Hk
  isplitl [Ha]; · iexact Ha
  isplitl [Ho]; · unfold r1Pay; iexact Ho
  isplitl [HU] <;> iassumption

/-- The whole body works with the two lanes, the protocol's state, and the buffers of the edges, -/
def bodyPre : sProp 𝕄 :=
  iprop(opened Rv Cv c ∗ levAts L lv ∗ (issued up c A 0 ∗ issued dn c B 0)
    ∗ (owns (c : Thread nD τ) rM fullShare (Rv c) ∗ owns (c : Thread nD τ) cM fullShare (Cv c) ∗ ∃ Y, owns (c : Thread nD τ) oM fullShare Y)
    ∗ (∃ Y, owns (c : Thread nD τ) (tgt c) fullShare Y)
    ∗ ∃ W, owes (c : Thread nD τ) (O₀ c) W)

/-- and leaves the lanes landed, the counters at zero, the edges in place. -/
def bodyPost : sProp 𝕄 :=
  iprop((semVal (barCell c) 0 ∗ semVal (s0Cell c) 0 ∗ semVal (s1Cell c) 0 ∗ semVal (r0Cell c) 0 ∗ semVal (r1Cell c) 0)
    ∗ (awaited up c A 15 ∗ awaited dn c B 15)
    ∗ (owns (c : Thread nD τ) rM fullShare (Rv c) ∗ owns (c : Thread nD τ) cM fullShare (Cv c)
      ∗ owns (c : Thread nD τ) (tgt c) fullShare (Rv (xn c)) ∗ owns (c : Thread nD τ) oM fullShare (Cv (yn c)))
    ∗ ∃ W, owes (c : Thread nD τ) 0 W)

theorem body_run (hr hc hx hu hd ho) (Kt : PUnit → sProp 𝕄) :
    iprop(bodyPre Rv Cv c A B ∗ (bodyPost Rv Cv c A B -∗ Kt ⟨⟩))
      ⊢ wp frame (wpE (defs₀ (F := F)) 𝒱₀ (c : Thread nD τ) none) Set.univ
          (cc0_body (F := F) rM hr cM hc xM hx uM hu dM hd oM ho cc0_scratch0 cc0_scratch1 cc0_scratch2) Kt := by
  simp only [cc0_body_eq_skeleton]
  unfold cc0_body_skel
  simp only [wp_bind]
  unfold bodyPre opened toPay toGet
  iintro ⟨⟨⟨⟨%κ, #HK⟩, ⟨HaB, HaS0, HaS1, HaR0, HaR1⟩, ⟨#HrS0, #HrS1, #HrR0, #HrR1⟩, ⟨HtBX, HtBY, HtR0, HtR1, HtS0, HtS1⟩, ⟨HcB, HcR0, HcR1⟩⟩,
    #Hlev, ⟨HU, HD⟩, ⟨Hr, Hc, Ho⟩, Ht, HO⟩, Hk⟩
  iapply (part1 c A)
  isplitl [HU]; · iexact HU
  iintro HU
  iapply (part2 c A)
  isplitl [HU]; · iexact HU
  iintro HU
  iapply (part3 c A)
  isplitl [HU]; · iexact HU
  iintro HU
  iapply (part4 c A B)
  isplitl [HU HD]; · isplitl [HU] <;> iassumption
  iintro ⟨HU, HD⟩
  iapply (part5 c B)
  isplitl [HD]; · iexact HD
  iintro HD
  iapply (part6 c B)
  isplitl [HD]; · iexact HD
  iintro HD
  iapply (part7 Rv Cv κ c B)
  isplitl [HD HtBX Ht HO]
  · isplitl [HD]; · iexact HD
    isplitr; · iexact HK
    isplitl [HtBX]; · iexact HtBX
    isplitl [Ht]; · iexact Ht
    isplitr; · iexact HrR0
    iexact HO
  iintro ⟨HD, HO⟩
  iapply (part8 Rv Cv κ c)
  isplitl [HtBY HtR0 HtR1 HtS0 HtS1 HcB HcR0 HaB HaS0 HaS1 HaR0 Hr Hc Ho HO]
  · unfold talkPre
    isplitr
    · isplitr; · iexact HK
      isplitr; · iexact Hlev
      isplitr; · iexact HrS0
      isplitr <;> iassumption
    isplitl [HtBY HtR0 HtR1 HtS0 HtS1]
    · isplitl [HtBY]; · iexact HtBY
      isplitl [HtR0]; · iexact HtR0
      isplitl [HtR1]; · iexact HtR1
      isplitl [HtS0] <;> iassumption
    isplitl [HcB HcR0]; · isplitl [HcB] <;> iassumption
    isplitl [HaB HaS0 HaS1 HaR0]
    · isplitl [HaB]; · iexact HaB
      isplitl [HaS0]; · iexact HaS0
      isplitl [HaS1] <;> iassumption
    isplitl [Hr Hc Ho]
    · isplitl [Hr]; · iexact Hr
      isplitl [Hc] <;> iassumption
    iexact HO
  iintro %v Hp
  unfold talkPost
  icases Hp with ⟨⟨HaB, HaS0, HaS1, HaR0⟩, ⟨Hr, Hc, Ht⟩, HO⟩
  ihave HU := (awaited_zero up c A) $$ HU
  ihave HD := (awaited_zero dn c B) $$ HD
  iapply (part9 Rv Cv κ c A)
  isplitl [HcR1 HaR1 HU HO]
  · isplitr; · iexact HK
    isplitl [HcR1]; · iexact HcR1
    isplitl [HaR1]; · iexact HaR1
    isplitl [HU] <;> iassumption
  iintro ⟨HaR1, Ho, HU, HO⟩
  iapply (part10 c A)
  isplitl [HU HO]; · isplitl [HU] <;> iassumption
  iintro ⟨HU, HO⟩
  iapply (part11 c A)
  isplitl [HU HO]; · isplitl [HU] <;> iassumption
  iintro ⟨HU, HO⟩
  iapply (part12 c A B)
  isplitl [HU HD HO]
  · isplitl [HU]; · iexact HU
    isplitl [HD] <;> iassumption
  iintro ⟨HU, HD, HO⟩
  iapply (part13 c B)
  isplitl [HD HO]; · isplitl [HD] <;> iassumption
  iintro ⟨HD, HO⟩
  iapply (part14 c B)
  isplitl [HD HO]; · isplitl [HD] <;> iassumption
  iintro ⟨HD, HO⟩
  simp only [Prog.lift, Prog.bind_op, Prog.bind_ret, Prog.pure_eq_ret, Prog.bind_assoc]
  iapply (await dn c B ⟨12, by decide⟩) $$ [HD HO]
  · isplitl [HD] <;> iassumption
  iintro ⟨HD, HO⟩
  simp only [wp_ret]
  imodintro
  iapply (await dn c B ⟨13, by decide⟩) $$ [HD HO]
  · isplitl [HD] <;> iassumption
  iintro ⟨HD, HO⟩
  simp only [wp_ret]
  imodintro
  iapply (await dn c B ⟨14, by decide⟩) $$ [HD HO]
  · isplitl [HD] <;> iassumption
  iintro ⟨HD, HO⟩
  ihave #HK' := (Entails.of_eq (known_eq Rv Cv κ c)) $$ HK
  icases HK' with ⟨#HIb, #HIs0, #HIs1, #HIr0, #HIr1, -⟩
  rw [wp_ret]
  imod (close Rv Cv (κ (barCell c)) (barCell c)) $$ [HaB] with Hv0
  · isplitr; · iexact HIb
    iexact HaB
  imod (close Rv Cv (κ (s0Cell c)) (s0Cell c)) $$ [HaS0] with Hv1
  · isplitr; · iexact HIs0
    iexact HaS0
  imod (close Rv Cv (κ (s1Cell c)) (s1Cell c)) $$ [HaS1] with Hv2
  · isplitr; · iexact HIs1
    iexact HaS1
  imod (close Rv Cv (κ (r0Cell c)) (r0Cell c)) $$ [HaR0] with Hv3
  · isplitr; · iexact HIr0
    iexact HaR0
  imod (close Rv Cv (κ (r1Cell c)) (r1Cell c)) $$ [HaR1] with Hv4
  · isplitr; · iexact HIr1
    iexact HaR1
  imodintro
  imodintro
  iapply Hk
  unfold bodyPost
  isplitl [Hv0 Hv1 Hv2 Hv3 Hv4]
  · isplitl [Hv0]; · iexact Hv0
    isplitl [Hv1]; · iexact Hv1
    isplitl [Hv2]; · iexact Hv2
    isplitl [Hv3] <;> iassumption
  isplitl [HU HD]; · isplitl [HU] <;> iassumption
  isplitl [Hr Hc Ht Ho]
  · isplitl [Hr]; · iexact Hr
    isplitl [Hc]; · iexact Hc
    isplitl [Ht] <;> iassumption
  iexact HO

end Talk

end Cert.Halo
-- ==== Proof.Arrays0.lean ====
/-
# The first region's arrays

The six arrays in main memory that the exchange touches, taken out of a device's buffers and put back, and what the five
windows read and write: each window is its whole array, moved once.
-/
module

public import proofs.«01_k».proof.Proof.Rows
public import proofs.«01_k».proof.Proof.Exchange

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ UU ℕ

/-- One whole buffer of a device. -/
abbrev pt (c : Dev nD) (r : Ref sig .tc) (f : Buf (Elt F) ((c : Thread nD τ).loc r)) : sProp 𝕄 :=
  iprop((c : Thread nD τ).loc r ↦{fullShare} f)

/-- A reference among a device's buffers. -/
abbrev dr (r : Ref sig .tc) : DevRef τ sig := Proc.devRef .tc r

/-- The arrays the exchange touches. -/
abbrev six : Finset (DevRef τ sig) := {dr main_v22, dr main_v21, dr main_v24_0, dr main_v24_1, dr main_v24_2, dr main_v23}

theorem mem_uc (r : Ref sig .tc) (h : r.isScoped = false) : dr r ∈ Pipeline.ucRefs τ sig :=
  Finset.mem_filter.mpr ⟨StableHlo.devRef_mem_tcRefs r, by simpa using h⟩

theorem six_sub : six ⊆ Pipeline.ucRefs τ sig := by
  intro b hb
  simp only [six, Finset.mem_insert, Finset.mem_singleton] at hb
  rcases hb with rfl | rfl | rfl | rfl | rfl | rfl <;> exact mem_uc _ (by decide)

theorem held_six (c : Dev nD) (V : Valuation τ sig (Elt F)) :
    (StableHlo.held (c : Thread nD τ) (Pipeline.ucRefs τ sig) V : sProp 𝕄)
      = iprop((pt c main_v22 (V main_v22) ∗ pt c main_v21 (V main_v21) ∗ pt c main_v24_0 (V main_v24_0) ∗ pt c main_v24_1 (V main_v24_1)
          ∗ pt c main_v24_2 (V main_v24_2) ∗ pt c main_v23 (V main_v23))
        ∗ StableHlo.held (c : Thread nD τ) (Pipeline.ucRefs τ sig \ six) V) := by
  rw [StableHlo.held_sub_split (c : Thread nD τ) six_sub V]
  congr 1
  unfold StableHlo.held
  rw [bigSep_insert (by decide), bigSep_insert (by decide), bigSep_insert (by decide), bigSep_insert (by decide), bigSep_insert (by decide),
    bigSep_singleton]
  rfl

variable (V : Dev nD → Valuation τ sig (Elt F))

/-- What each device sends across the upper or lower edge, what it sends across the other, and its block in rows. -/
abbrev rv (c : Dev nD) : S1x1x4096.Idx → Elt F .bf16 := V c main_v22
abbrev cv (c : Dev nD) : S32x128.Idx → Elt F .bf16 := V c main_v21
abbrev xv (c : Dev nD) : S4096x1x4096.Idx → Elt F .bf16 := V c main_v23

/-- What the body leaves in each staging buffer. -/
def left0 (c : Dev nD) : (w : Fin 5) → ((win0 w).block.Idx → Elt F (win0 w).elt) → Prop
  | 0 => fun X => X = rv V c
  | 1 => fun X => X = cv V c
  | 2 => fun X => upGood c (xv V c) (rv V (xn c)) X
  | 3 => fun X => dnGood c (xv V c) (rv V (xn c)) X
  | 4 => fun X => X = cv V (yn c)
  | ⟨_ + 5, h⟩ => absurd h (Nat.not_lt.2 (Nat.le_add_left _ _))

/-- What a device holds beside the staging buffers before the body, -/
def held0 (c : Dev nD) : sProp 𝕄 :=
  iprop(opened (rv V) (cv V) c
    ∗ ((bigSep Finset.univ fun j : Fin 15 => semVal ((c : Thread nD τ), SemLoc.dma (uSem j)) 0) ∗ bigSep Finset.univ fun j : Fin 15 => semVal ((c : Thread nD τ), SemLoc.dma (dSem j)) 0)
    ∗ levAts L lv ∗ owns (c : Thread nD τ) xM fullShare (xv V c))

/-- and after it. -/
def back0 (c : Dev nD) : sProp 𝕄 :=
  iprop((semVal (barCell c) 0 ∗ semVal (s0Cell c) 0 ∗ semVal (s1Cell c) 0 ∗ semVal (r0Cell c) 0 ∗ semVal (r1Cell c) 0)
    ∗ ((bigSep Finset.univ fun j : Fin 15 => semVal ((c : Thread nD τ), SemLoc.dma (uSem j)) 0) ∗ bigSep Finset.univ fun j : Fin 15 => semVal ((c : Thread nD τ), SemLoc.dma (dSem j)) 0)
    ∗ owns (c : Thread nD τ) xM fullShare (xv V c))

/-- The first region's data: what the arrays hold at entry, what the body may leave, what is held and owed around it. -/
def rdat0 (c : Dev nD) : RDat τ (Elt F) Unit ℕ UU ℕ cfg0 c where
  A w := V c (dr (Pipeline.arrRef spec0 w))
  after w _ _ X := left0 V c w X
  Φ t := iprop((if t.val = 0 then held0 V c else back0 V c) ∗ Pipeline.scopedRest spec0 c)
  q _ := fullShare
  owed t := if t.val = 0 then O₀ c else 0

theorem share0 (c : Dev nD) (w : Fin 5) : (rdat0 V c).share w = fullShare := by
  unfold RDat.share; split <;> rfl

theorem arrays0 (c : Dev nD) (G) : ((rdat0 V c).arrays G : sProp 𝕄)
    = iprop(pt c main_v22 (G 0) ∗ pt c main_v21 (G 1) ∗ pt c main_v24_0 (G 2) ∗ pt c main_v24_1 (G 3) ∗ pt c main_v24_2 (G 4)) := by
  unfold RDat.arrays
  rw [← bigSep_W0 (fun w => iprop((c : Thread nD τ).loc (Pipeline.arrRef spec0 w) ↦{fullShare} G w))]
  exact bigSep_congr fun w _ => by rw [share0]; rw [(arr_whole0 w).set_eq_univ]

/-- Each window moves its whole array: what a fetch leaves is the array, and what a write-back leaves is the buffer. -/
theorem found0 (c : Dev nD) (t : Fin cfg0.N) (X) (h : (rdat0 V c).Finds 0 t X) : X = rv V c := by
  obtain ⟨d, rfl⟩ := ((rdat0 V c).finds_of_fetch (fetch0_0 t) X).mp h
  refine ((cfg0.win 0).cut_fill (cfg0.grid.coords t) d _).trans ?_
  exact Memref.read_access_unit_zero (Elt F) main_v22 (funext fun a => Nat.zero_mul _) _ _
theorem found1 (c : Dev nD) (t : Fin cfg0.N) (X) (h : (rdat0 V c).Finds 1 t X) : X = cv V c := by
  obtain ⟨d, rfl⟩ := ((rdat0 V c).finds_of_fetch (fetch0_1 t) X).mp h
  refine ((cfg0.win 1).cut_fill (cfg0.grid.coords t) d _).trans ?_
  exact Memref.read_access_unit_zero (Elt F) main_v21 (funext fun a => Nat.zero_mul _) _ _

theorem wrote0 (c : Dev nD) (w : Fin 5) (hw : (cfg0.win w).flush t0_0 = true) (G) (h : (rdat0 V c).ArrAt w cfg0.N G) :
    ∃ G₀ X, left0 V c w X ∧ G = ((cfg0.win w).blk t0_0).view.write (Elt F) G₀ ((cfg0.win w).cut (cfg0.grid.coords t0_0) X) Finset.univ := by
  rw [show cfg0.N = t0_0.val + 1 from N_0, (rdat0 V c).ArrAt_succ w t0_0, if_pos hw] at h
  obtain ⟨G₀, X, -, ⟨Y, -, hX⟩, hG⟩ := h
  exact ⟨G₀, X, hX, hG⟩

theorem wrote2 (c : Dev nD) (G) (h : (rdat0 V c).ArrAt 2 cfg0.N G) : upGood c (xv V c) (rv V (xn c)) G := by
  obtain ⟨G₀, X, hX, rfl⟩ := wrote0 V c 2 (flush0_2 _) G h
  have e : ((cfg0.win 2).blk t0_0).view.write (Elt F) G₀ ((cfg0.win 2).cut (cfg0.grid.coords t0_0) X) Finset.univ = X :=
    Memref.write_access_unit_zero_univ (Elt F) main_v24_0 (funext fun a => Nat.zero_mul _) _ _ _
  rw [e]; exact hX
theorem wrote3 (c : Dev nD) (G) (h : (rdat0 V c).ArrAt 3 cfg0.N G) : dnGood c (xv V c) (rv V (xn c)) G := by
  obtain ⟨G₀, X, hX, rfl⟩ := wrote0 V c 3 (flush0_3 _) G h
  have e : ((cfg0.win 3).blk t0_0).view.write (Elt F) G₀ ((cfg0.win 3).cut (cfg0.grid.coords t0_0) X) Finset.univ = X :=
    Memref.write_access_unit_zero_univ (Elt F) main_v24_1 (funext fun a => Nat.zero_mul _) _ _ _
  rw [e]; exact hX
theorem wrote4 (c : Dev nD) (G) (h : (rdat0 V c).ArrAt 4 cfg0.N G) : G = cv V (yn c) := by
  obtain ⟨G₀, X, hX, rfl⟩ := wrote0 V c 4 (flush0_4 _) G h
  have e : ((cfg0.win 4).blk t0_0).view.write (Elt F) G₀ ((cfg0.win 4).cut (cfg0.grid.coords t0_0) X) Finset.univ = X :=
    Memref.write_access_unit_zero_univ (Elt F) main_v24_2 (funext fun a => Nat.zero_mul _) _ _ _
  rw [e]; exact hX

end Cert.Halo
-- ==== Proof.Body0.lean ====
/-
# The first region's body, window by window

The run of the exchange stated over the staging buffers as the windows hand them out: the two buffers of rows are cut before
it and joined after it, and a device's one open row is the one that no neighbour fills.
-/
module

public import proofs.«01_k».proof.Proof.Arrays0

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ UU ℕ

section Lanes

variable (l : Lane) (c : Dev nD) (A : Fin 15 → S1x1x4096.Idx → Elt F .bf16)

/-- A lane is ready to issue from its sources, its targets and its counters at zero, -/
theorem lane_in :
    (iprop((bigSep Finset.univ fun j => owns (c : Thread nD τ) (l.src j) fullShare (A j))
        ∗ (bigSep Finset.univ fun j => iprop(∃ Y, owns (c : Thread nD τ) (l.dst j) fullShare Y))
        ∗ bigSep Finset.univ fun j => semVal ((c : Thread nD τ), SemLoc.dma (l.sem j)) 0) : sProp 𝕄)
      ⊢ issued l c A 0 := by
  refine BIBase.Entails.trans ?_ (issued_zero l c A)
  rw [← bigSep_sep', ← bigSep_sep']
  exact .rfl

/-- and gives all three back. -/
theorem lane_out :
    (awaited l c A 15 : sProp 𝕄)
      ⊢ iprop(((bigSep Finset.univ fun j => owns (c : Thread nD τ) (l.dst j) fullShare (A j))
          ∗ bigSep Finset.univ fun j => owns (c : Thread nD τ) (l.src j) fullShare (A j))
        ∗ bigSep Finset.univ fun j => semVal ((c : Thread nD τ), SemLoc.dma (l.sem j)) 0) := by
  refine (awaited_all l c A).trans ?_
  rw [← bigSep_sep', ← bigSep_sep']
  exact .rfl

end Lanes

/-- The two edge rows, as the one a neighbour fills and the other. -/
theorem ends_in (c : Dev nD) :
    (iprop((∃ Y, owns (c : Thread nD τ) (uRow 0) fullShare Y) ∗ ∃ Y, owns (c : Thread nD τ) (dRow 15) fullShare Y) : sProp 𝕄)
      ⊢ iprop((∃ Y, owns (c : Thread nD τ) (tgt c) fullShare Y) ∗ ∃ Y, owns (c : Thread nD τ) (keep c) fullShare Y) := by
  by_cases h : low c
  · rw [tgt_low h, keep_low h]
  · rw [tgt_high h, keep_high h]; iintro ⟨H, K⟩; isplitl [K] <;> iassumption

theorem ends_out (c : Dev nD) (R : S1x1x4096.Idx → Elt F .bf16) :
    (iprop(owns (c : Thread nD τ) (tgt c) fullShare R ∗ ∃ Y, owns (c : Thread nD τ) (keep c) fullShare Y) : sProp 𝕄)
      ⊢ iprop((∃ Z, ⌜low c → Z = R⌝ ∗ owns (c : Thread nD τ) (uRow 0) fullShare Z)
        ∗ ∃ Z, ⌜¬ low c → Z = R⌝ ∗ owns (c : Thread nD τ) (dRow 15) fullShare Z) := by
  by_cases h : low c
  · rw [tgt_low h, keep_low h]
    iintro ⟨H, ⟨%Y, K⟩⟩
    isplitl [H]
    · iexists R; isplitr; · ipureintro; exact fun _ => rfl
      iexact H
    iexists Y; isplitr; · ipureintro; exact fun h' => absurd h h'
    iexact K
  · rw [tgt_high h, keep_high h]
    iintro ⟨H, ⟨%Y, K⟩⟩
    isplitl [K]
    · iexists Y; isplitr; · ipureintro; exact fun h' => absurd h' h
      iexact K
    iexists R; isplitr; · ipureintro; exact fun _ => rfl
    iexact H

variable (V : Dev nD → Valuation τ sig (Elt F))

/-- What the body is handed, -/
def handed0 (c : Dev nD) : sProp 𝕄 :=
  iprop((held0 V c ∗ ∃ W, owes (c : Thread nD τ) (O₀ c) W)
    ∗ owns (c : Thread nD τ) rM fullShare (rv V c) ∗ owns (c : Thread nD τ) cM fullShare (cv V c)
    ∗ (∃ Y, owns (c : Thread nD τ) uM fullShare Y) ∗ (∃ Y, owns (c : Thread nD τ) dM fullShare Y) ∗ ∃ Y, owns (c : Thread nD τ) oM fullShare Y)

/-- and what it hands back. -/
def returned0 (c : Dev nD) : sProp 𝕄 :=
  iprop((back0 V c ∗ ∃ W, owes (c : Thread nD τ) 0 W)
    ∗ owns (c : Thread nD τ) rM fullShare (rv V c) ∗ owns (c : Thread nD τ) cM fullShare (cv V c)
    ∗ (∃ Y, ⌜upGood c (xv V c) (rv V (xn c)) Y⌝ ∗ owns (c : Thread nD τ) uM fullShare Y)
    ∗ (∃ Y, ⌜dnGood c (xv V c) (rv V (xn c)) Y⌝ ∗ owns (c : Thread nD τ) dM fullShare Y)
    ∗ owns (c : Thread nD τ) oM fullShare (cv V (yn c)))

theorem exchange (c : Dev nD) (hr hc hx hu hd ho) (Kt : PUnit → sProp 𝕄) :
    iprop(handed0 V c ∗ (returned0 V c -∗ Kt ⟨⟩))
      ⊢ wp frame (wpE (defs₀ (F := F)) 𝒱₀ (c : Thread nD τ) none) Set.univ
          (cc0_body (F := F) rM hr cM hc xM hx uM hu dM hd oM ho cc0_scratch0 cc0_scratch1 cc0_scratch2) Kt := by
  unfold handed0 returned0
  unfold held0 back0
  iintro ⟨⟨⟨⟨Ho, ⟨HsU, HsD⟩, HL, HX⟩, HO⟩, Hr, Hc, HU, HD, HC⟩, HK⟩
  ihave HX := (split_block c (xv V c)) $$ HX
  icases HX with ⟨⟨HaU, HaD⟩, Hback⟩
  ihave HU := (split_up c) $$ HU
  icases HU with ⟨Hu0, HU⟩
  ihave HD := (split_dn c) $$ HD
  icases HD with ⟨Hd0, HD⟩
  ihave He := (ends_in c) $$ [Hu0 Hd0]
  · isplitl [Hu0] <;> iassumption
  icases He with ⟨Ht, Hk⟩
  iapply (body_run (rv V) (cv V) c (above (xv V c)) (below (xv V c)) hr hc hx hu hd ho)
  isplitl [Ho HL HaU HU HsU HaD HD HsD Hr Hc HC Ht HO]
  · unfold bodyPre
    isplitl [Ho]; · iexact Ho
    isplitl [HL]; · iexact HL
    isplitl [HaU HU HsU HaD HD HsD]
    · isplitl [HaU HU HsU]
      · iapply (lane_in up c (above (xv V c)))
        isplitl [HaU]; · iexact HaU
        isplitl [HU]; · iexact HU
        iexact HsU
      iapply (lane_in dn c (below (xv V c)))
      isplitl [HaD]; · iexact HaD
      isplitl [HD]; · iexact HD
      iexact HsD
    isplitl [Hr Hc HC]
    · isplitl [Hr]; · iexact Hr
      isplitl [Hc] <;> iassumption
    isplitl [Ht] <;> iassumption
  unfold bodyPost
  iintro ⟨Hs, ⟨HU, HD⟩, ⟨Hr, Hc, Ht, HC⟩, HO⟩
  ihave HU := (lane_out up c (above (xv V c))) $$ HU
  icases HU with ⟨⟨HU, HaU⟩, HsU⟩
  ihave HD := (lane_out dn c (below (xv V c))) $$ HD
  icases HD with ⟨⟨HD, HaD⟩, HsD⟩
  ihave He := (ends_out c (rv V (xn c))) $$ [Ht Hk]
  · isplitl [Ht] <;> iassumption
  icases He with ⟨⟨%Z, %hZ, HZ⟩, ⟨%Z', %hZ', HZ'⟩⟩
  iapply HK
  isplitl [Hs HsU HsD HaU HaD Hback HO]
  · isplitr [HO]
    · isplitl [Hs]; · iexact Hs
      isplitl [HsU HsD]
      · isplitl [HsU]; · iexact HsU
        iexact HsD
      iapply Hback
      isplitl [HaU] <;> iassumption
    iexact HO
  isplitl [Hr]; · iexact Hr
  isplitl [Hc]; · iexact Hc
  isplitl [HZ HU]
  · iapply (join_up c (xv V c) (rv V (xn c)) Z hZ)
    isplitl [HZ] <;> iassumption
  isplitl [HZ' HD]
  · iapply (join_dn c (xv V c) (rv V (xn c)) Z' hZ')
    isplitl [HZ'] <;> iassumption
  iexact HC

end Cert.Halo
-- ==== Proof.Region0.lean ====
/-
# The first region

The exchange as a segment of the program: entered with every device's arrays as the host left them and the protocol's state
closed, left with the neighbours' rows and columns in the result arrays and every counter at zero.
-/
module

public import proofs.«01_k».proof.Proof.Body0
public import Idealize.ShloMosaic.Lib.Pipeline.RegionArrays

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ UU ℕ

variable (V : Dev nD → Valuation τ sig (Elt F))

theorem owes_in {D : CellTallies nD τ sig Unit} {B : Set (SemLoc sig × Unit)} (c : Dev nD) (h : B = Set.univ) :
    (iprop(∃ W, owes (c : Thread nD τ) D W) : sProp 𝕄) ⊢ Pipeline.owesWithin c D B := by
  unfold Pipeline.owesWithin
  iintro ⟨%W, H⟩; iexists W; isplitr
  · ipureintro; rw [h]; exact fun _ _ => trivial
  iexact H

theorem owes_out {D : CellTallies nD τ sig Unit} {B : Set (SemLoc sig × Unit)} (c : Dev nD) :
    (Pipeline.owesWithin c D B : sProp 𝕄) ⊢ iprop(∃ W, owes (c : Thread nD τ) D W) := by
  unfold Pipeline.owesWithin
  iintro ⟨%W, -, H⟩; iexists W; iexact H

theorem last0 : ¬ (Fin.last cfg0.N).val = 0 := by rw [Fin.val_last]; exact N_0.trans_ne one_ne_zero

theorem bound0 (c : Dev nD) (t) : (rdat0 V c).bound () t = Set.univ := Set.univ_union _

theorem start0 (c : Dev nD) : (iprop(∃ W, owes (c : Thread nD τ) (O₀ c) W) : sProp 𝕄) ⊢ (rdat0 V c).owesAt () 0 :=
  owes_in c (bound0 V c 0)
theorem begun0 (c : Dev nD) : ((rdat0 V c).owesAt () 0 : sProp 𝕄) ⊢ iprop(∃ W, owes (c : Thread nD τ) (O₀ c) W) := owes_out c
theorem owed0_last (c : Dev nD) : (rdat0 V c).owed (Fin.last cfg0.N) = 0 :=
  show (if (Fin.last cfg0.N).val = 0 then O₀ c else 0) = 0 from if_neg last0
theorem finish0 (c : Dev nD) : (iprop(∃ W, owes (c : Thread nD τ) 0 W) : sProp 𝕄) ⊢ (rdat0 V c).owesAt () (Fin.last cfg0.N) := by
  unfold RDat.owesAt; rw [owed0_last]; exact owes_in c (bound0 V c _)
theorem ended0 (c : Dev nD) : ((rdat0 V c).owesAt () (Fin.last cfg0.N) : sProp 𝕄) ⊢ iprop(∃ W, owes (c : Thread nD τ) 0 W) := by
  unfold RDat.owesAt; rw [owed0_last]; exact owes_out c

theorem phi0_first (c : Dev nD) : ((rdat0 V c).Φ 0 : sProp 𝕄) = iprop(held0 V c ∗ Pipeline.scopedRest spec0 c) := rfl
theorem phi0_last (c : Dev nD) : ((rdat0 V c).Φ (Fin.last cfg0.N) : sProp 𝕄) = iprop(back0 V c ∗ Pipeline.scopedRest spec0 c) := by
  show iprop((if (Fin.last cfg0.N).val = 0 then held0 V c else back0 V c) ∗ _) = _
  rw [if_neg last0]

theorem body0 (c : Dev nD) : (rdat0 V c).BodyObligation (defs₀ (F := F)) 𝒱₀ () Set.univ := by
  intro t Y hY
  obtain rfl := fin_N0 t
  have e0 := found0 V c t0_0 _ (hY 0)
  have e1 := found1 V c t0_0 _ (hY 1)
  rw [bigSep_W0, bigSep_W0, e0, e1]
  rw [show t0_0.castSucc = (0 : Fin (cfg0.N + 1)) from rfl, show t0_0.succ = Fin.last cfg0.N from rfl, phi0_first, phi0_last]
  iintro ⟨⟨Hh, Hs⟩, HO, Hr, Hc, Hu, Hd, Hcol⟩
  ihave HO := (begun0 V c) $$ HO
  iapply (exchange V c (hstage0_0 0) (hstage0_1 0) (Memref.isWhole_whole _) (hstage0_2 0) (hstage0_3 0) (hstage0_4 0) _)
  isplitl [Hh HO Hr Hc Hu Hd Hcol]
  · unfold handed0
    isplitl [Hh HO]; · isplitl [Hh] <;> iassumption
    isplitl [Hr]; · iexact Hr
    isplitl [Hc]; · iexact Hc
    isplitl [Hu]; · iexists (Y 2); iexact Hu
    isplitl [Hd]; · iexists (Y 3); iexact Hd
    iexists (Y 4); iexact Hcol
  unfold returned0
  iintro ⟨⟨Hh, HO⟩, Hr, Hc, ⟨%U, %hU, Hu⟩, ⟨%D, %hD, Hd⟩, Hcol⟩
  ihave HO := (finish0 V c) $$ HO
  isplitl [Hh Hs]; · isplitl [Hh] <;> iassumption
  isplitl [HO]; · iexact HO
  isplitl [Hr]; · iexists (rv V c); isplitr; · ipureintro; exact rfl
                  iexact Hr
  isplitl [Hc]; · iexists (cv V c); isplitr; · ipureintro; exact rfl
                  iexact Hc
  isplitl [Hu]; · iexists U; isplitr; · ipureintro; exact hU
                  iexact Hu
  isplitl [Hd]; · iexists D; isplitr; · ipureintro; exact hD
                  iexact Hd
  iexists (cv V (yn c)); isplitr; · ipureintro; exact rfl
  iexact Hcol

/-- The own semaphores of the exchange: the four of the transfers between devices and the two lanes'. -/
def sem0 : Fin 4 ⊕ (Fin 15 ⊕ Fin 15) → SemLoc sig
  | .inl 0 => .dma s0
  | .inl 1 => .dma s1
  | .inl 2 => .dma r0
  | .inl 3 => .dma r1
  | .inr (.inl j) => .dma (uSem j)
  | .inr (.inr j) => .dma (dSem j)

theorem sem0_facts : Pipeline.OwnSemFacts (pcfgs (F := F) 0).spec sem0 := by
  show Pipeline.OwnSemFacts spec0 sem0
  decide

theorem sems0 (c : Dev nD) : (Pipeline.ownSems0 sem0 c : sProp 𝕄)
    = iprop((semVal (s0Cell c) 0 ∗ semVal (s1Cell c) 0 ∗ semVal (r0Cell c) 0 ∗ semVal (r1Cell c) 0)
      ∗ (bigSep Finset.univ fun j : Fin 15 => semVal ((c : Thread nD τ), SemLoc.dma (uSem j)) 0)
      ∗ bigSep Finset.univ fun j : Fin 15 => semVal ((c : Thread nD τ), SemLoc.dma (dSem j)) 0) := by
  unfold Pipeline.ownSems0
  rw [bigSep_univ_sum, bigSep_univ_sum, bigSep_univ_eq_bigSepL [(0 : Fin 4), 1, 2, 3] (by decide) (by decide)]
  rfl

/-- A device's buffers after the exchange. -/
abbrev after0 (U D : S16x1x4096.Idx → Elt F .bf16) (c : Dev nD) : Valuation τ sig (Elt F) :=
  Function.update (Function.update (Function.update (V c) main_v24_0 U) main_v24_1 D) main_v24_2 (cv V (yn c))

theorem held_after0 (U D) (c : Dev nD) :
    (iprop((pt c main_v22 (rv V c) ∗ pt c main_v21 (cv V c) ∗ pt c main_v24_0 U ∗ pt c main_v24_1 D ∗ pt c main_v24_2 (cv V (yn c)) ∗ pt c main_v23 (xv V c))
        ∗ StableHlo.held (c : Thread nD τ) (Pipeline.ucRefs τ sig \ six) (V c)) : sProp 𝕄)
      = StableHlo.held (c : Thread nD τ) (Pipeline.ucRefs τ sig) (after0 V U D c) := by
  rw [held_six c (after0 V U D c), StableHlo.held_congr (c : Thread nD τ) (S := Pipeline.ucRefs τ sig \ six) (V := V c) (V' := after0 V U D c)]
  · rfl
  · intro b hb
    have hb := (Finset.mem_sdiff.mp hb).2
    simp only [six, Finset.mem_insert, Finset.mem_singleton, not_or] at hb
    show V c b = Function.update (Function.update (Function.update (V c) main_v24_0 U) main_v24_1 D) main_v24_2 (cv V (yn c)) b
    rw [Function.update_of_ne hb.2.2.2.2.1, Function.update_of_ne hb.2.2.2.1, Function.update_of_ne hb.2.2.1]

variable (rd1 : (c : Dev nD) → RDat τ (Elt F) Unit ℕ UU ℕ cfg1 c)

/-- The data of the two regions. -/
def rdats : (p : Fin 2) → (c : Dev nD) → RDat τ (Elt F) Unit ℕ UU ℕ (Pipeline.pin (pcfgs (F := F)) adm p) c
  | 0 => rdat0 V
  | 1 => rd1
  | ⟨_ + 2, h⟩ => absurd h (Nat.not_lt.2 (Nat.le_add_left _ _))

theorem staging0 : ∀ (w : Fin 5) (s : Fin (spec0 w).nbuf), (spec0 w).sem s ≠ r0 ∧ (spec0 w).sem s ≠ r1 := by decide
theorem lv_staging0 (c : Dev nD) (w : Fin 5) (s : Fin (spec0 w).nbuf) : lv ((c : Thread nD τ), SemLoc.dma ((spec0 w).sem s)) () ≤ 0 := by
  unfold lv
  rw [if_neg (by intro h; cases h), if_neg]
  rintro (h | h)
  · exact (staging0 w s).1 (SemLoc.dma.inj h)
  · exact (staging0 w s).2 (SemLoc.dma.inj h)

theorem waits0 (c : Dev nD) :
    (levAts L lv : sProp 𝕄) ⊢ Pipeline.RDat.cellsWaits (Pipeline.pin (pcfgs (F := F)) adm) (rdats V rd1) () 0 c := by
  refine Pipeline.RDat.cellsWaits_intro (Pipeline.pin (pcfgs (F := F)) adm) (rdats V rd1) () 0 c fun w s t => ?_
  have key : ∀ g u, 0 < (rdats V rd1 0 c).owed t g u → u ∈ L g ∧ 0 < lv g u := by
    intro g u h
    change 0 < (if t.val = 0 then O₀ c else 0 : CellTallies nD τ sig Unit) g u at h
    split at h
    · exact O₀_pos h
    · exact absurd h (lt_irrefl 0)
  exact MayOwe.of_cut 0 (fun q hq => by rw [Finset.mem_singleton.mp hq, L_tc]; exact Finset.mem_singleton_self _)
    (fun g u h => (key g u h).1) (fun q hq => by rw [Finset.mem_singleton.mp hq]; exact lv_staging0 c w s) (fun g u h => (key g u h).2)

theorem at_eq {c : Dev nD} {r : Ref sig .tc} {P : Buf (Elt F) ((c : Thread nD τ).loc r) → Prop} {X} (h : ∀ G, P G → G = X) :
    (iprop(∃ G, ⌜P G⌝ ∗ pt c r G) : sProp 𝕄) ⊢ pt c r X := by
  iintro ⟨%G, %hG, H⟩
  rw [← h G hG]
  iexact H
theorem at_imp {c : Dev nD} {r : Ref sig .tc} {P P' : Buf (Elt F) ((c : Thread nD τ).loc r) → Prop} (h : ∀ G, P G → P' G) :
    (iprop(∃ G, ⌜P G⌝ ∗ pt c r G) : sProp 𝕄) ⊢ iprop(∃ G, ⌜P' G⌝ ∗ pt c r G) := by
  iintro ⟨%G, %hG, H⟩
  iexists G; isplitr; · ipureintro; exact h G hG
  iexact H

theorem arraysAt0_eq (c : Dev nD) : ((rdat0 V c).arraysAt cfg0.N : sProp 𝕄)
    = iprop((∃ G, ⌜(rdat0 V c).ArrAt 0 cfg0.N G⌝ ∗ pt c main_v22 G) ∗ (∃ G, ⌜(rdat0 V c).ArrAt 1 cfg0.N G⌝ ∗ pt c main_v21 G)
      ∗ (∃ G, ⌜(rdat0 V c).ArrAt 2 cfg0.N G⌝ ∗ pt c main_v24_0 G) ∗ (∃ G, ⌜(rdat0 V c).ArrAt 3 cfg0.N G⌝ ∗ pt c main_v24_1 G)
      ∗ ∃ G, ⌜(rdat0 V c).ArrAt 4 cfg0.N G⌝ ∗ pt c main_v24_2 G) := by
  unfold RDat.arraysAt
  rw [← bigSep_W0 (fun w => iprop(∃ G, ⌜(rdat0 V c).ArrAt w cfg0.N G⌝ ∗ ((c : Thread nD τ).loc (Pipeline.arrRef spec0 w) ↦{fullShare} G)))]
  exact bigSep_congr fun w _ => by rw [share0]; rw [(arr_whole0 w).set_eq_univ]

theorem read22 (c : Dev nD) : (iprop(∃ G, ⌜(rdat0 V c).ArrAt 0 cfg0.N G⌝ ∗ pt c main_v22 G) : sProp 𝕄) ⊢ pt c main_v22 (rv V c) :=
  at_eq (c := c) (r := main_v22) fun G h => by rw [(rdat0 V c).ArrAt_in 0 rfl] at h; exact h
theorem read21 (c : Dev nD) : (iprop(∃ G, ⌜(rdat0 V c).ArrAt 1 cfg0.N G⌝ ∗ pt c main_v21 G) : sProp 𝕄) ⊢ pt c main_v21 (cv V c) :=
  at_eq (c := c) (r := main_v21) fun G h => by rw [(rdat0 V c).ArrAt_in 1 rfl] at h; exact h
theorem read24u (c : Dev nD) : (iprop(∃ G, ⌜(rdat0 V c).ArrAt 2 cfg0.N G⌝ ∗ pt c main_v24_0 G) : sProp 𝕄)
    ⊢ iprop(∃ U, ⌜upGood c (xv V c) (rv V (xn c)) U⌝ ∗ pt c main_v24_0 U) :=
  at_imp (c := c) (r := main_v24_0) (wrote2 V c)
theorem read24d (c : Dev nD) : (iprop(∃ G, ⌜(rdat0 V c).ArrAt 3 cfg0.N G⌝ ∗ pt c main_v24_1 G) : sProp 𝕄)
    ⊢ iprop(∃ D, ⌜dnGood c (xv V c) (rv V (xn c)) D⌝ ∗ pt c main_v24_1 D) :=
  at_imp (c := c) (r := main_v24_1) (wrote3 V c)
theorem read24c (c : Dev nD) : (iprop(∃ G, ⌜(rdat0 V c).ArrAt 4 cfg0.N G⌝ ∗ pt c main_v24_2 G) : sProp 𝕄) ⊢ pt c main_v24_2 (cv V (yn c)) :=
  at_eq (c := c) (r := main_v24_2) (wrote4 V c)

theorem arraysAt0 (c : Dev nD) :
    ((rdat0 V c).arraysAt cfg0.N : sProp 𝕄) ⊢ iprop(pt c main_v22 (rv V c) ∗ pt c main_v21 (cv V c)
      ∗ (∃ U, ⌜upGood c (xv V c) (rv V (xn c)) U⌝ ∗ pt c main_v24_0 U) ∗ (∃ D, ⌜dnGood c (xv V c) (rv V (xn c)) D⌝ ∗ pt c main_v24_1 D)
      ∗ pt c main_v24_2 (cv V (yn c))) := by
  rw [arraysAt0_eq]
  exact BIClass.sep_mono (read22 V c) (BIClass.sep_mono (read21 V c) (BIClass.sep_mono (read24u V c) (BIClass.sep_mono (read24d V c) (read24c V c))))

/-- The exchange as a segment. -/
def record0 (Ex : Dev nD → sProp 𝕄) : RDat.RegionSeg (pcfgs (F := F)) adm (rdats V rd1) () (defs₀ (F := F)) 𝒱₀ L lv 0 where
  win := winFacts0.to₀
  block_pos := block_pos0
  stage_whole := stage_whole0
  K := Fin 4 ⊕ (Fin 15 ⊕ Fin 15)
  osem := sem0
  ho := sem0_facts (F := F)
  hbody := body0 V
  hwaits := waits0 V rd1
  pre c := iprop(StableHlo.held (c : Thread nD τ) (Pipeline.ucRefs τ sig) (V c) ∗ closed (rv V) (cv V) c
    ∗ (∃ W, owes (c : Thread nD τ) (O₀ c) W) ∗ Ex c)
  post c := iprop((∃ U D, ⌜upGood c (xv V c) (rv V (xn c)) U ∧ dnGood c (xv V c) (rv V (xn c)) D⌝
      ∗ StableHlo.held (c : Thread nD τ) (Pipeline.ucRefs τ sig) (after0 V U D c))
    ∗ semVal (barCell c) 0 ∗ (∃ W, owes (c : Thread nD τ) 0 W) ∗ Ex c)
  X := held0 V
  Y c := iprop(semVal (barCell c) 0 ∗ owns (c : Thread nD τ) xM fullShare (xv V c))
  Z c := iprop(StableHlo.held (c : Thread nD τ) (Pipeline.ucRefs τ sig \ six) (V c) ∗ Ex c)
  hentry c := by
    rw [Pipeline.prefHeld_of_none _ rfl, held_six, sems0]
    show _ ⊢ |={Set.univ}=> iprop((rdat0 V c).arrays (rdat0 V c).A ∗ emp ∗ (rdat0 V c).owesAt () 0 ∗ held0 V c ∗ _)
    rw [arrays0]
    unfold held0
    iintro ⟨⟨⟨⟨H22, H21, Hu, Hd, Hc, H23⟩, Hr⟩, Hcl, HO, HE⟩, ⟨Hs, Hsem⟩, HL⟩
    imod (open_cells (rv V) (cv V) c) $$ [Hcl Hs] with Ho
    · isplitl [Hcl]; · iexact Hcl
      iexact Hs
    imodintro
    isplitl [H22 H21 Hu Hd Hc]
    · isplitl [H22]; · iexact H22
      isplitl [H21]; · iexact H21
      isplitl [Hu]; · iexact Hu
      isplitl [Hd]; · iexact Hd
      iexact Hc
    isplitr; · iempintro
    isplitl [HO]
    · iapply (start0 V c); iexact HO
    isplitr [Hr HE]
    · isplitl [Ho]; · iexact Ho
      isplitl [Hsem]; · iexact Hsem
      isplitl [HL]; · iexact HL
      rw [owns_whole]; iexact H23
    isplitl [Hr] <;> iassumption
  hin c := by
    rw [Pipeline.prefHeld_of_none _ rfl]
    show _ ⊢ iprop(held0 V c ∗ Pipeline.scopedRest spec0 c)
    iintro ⟨HX, -, Hs⟩
    isplitl [HX]; · iexact HX
    iexact Hs
  hout c := by
    rw [sems0]
    refine (Entails.of_eq (phi0_last V c)).trans ?_
    unfold back0
    iintro ⟨⟨⟨Hb, Hs⟩, Hsem, HX⟩, Hr⟩
    isplitl [Hb HX]; · isplitl [Hb] <;> iassumption
    isplitl [Hs Hsem]; · isplitl [Hs] <;> iassumption
    iexact Hr
  hexit c := by
    show iprop((rdat0 V c).arraysAt cfg0.N ∗ (rdat0 V c).owesAt () (Fin.last cfg0.N) ∗ _ ∗ _) ⊢ _
    iintro ⟨Ha, HO, ⟨Hb, HX⟩, Hr, HE⟩
    ihave HO := (ended0 V c) $$ HO
    ihave Ha := (arraysAt0 V c) $$ Ha
    icases Ha with ⟨H22, H21, ⟨%U, %hU, Hu⟩, ⟨%D, %hD, Hd⟩, Hc⟩
    imodintro
    isplitl [H22 H21 Hu Hd Hc HX Hr]
    · iexists U, D
      isplitr; · ipureintro; exact ⟨hU, hD⟩
      iapply (Entails.of_eq (held_after0 V U D c))
      isplitr [Hr]
      · isplitl [H22]; · iexact H22
        isplitl [H21]; · iexact H21
        isplitl [Hu]; · iexact Hu
        isplitl [Hd]; · iexact Hd
        isplitl [Hc]; · iexact Hc
        iapply (Entails.of_eq (owns_whole (c : Thread nD τ) main_v23 fullShare (xv V c))); iexact HX
      iexact Hr
    isplitl [Hb]; · iexact Hb
    isplitl [HO] <;> iassumption

end Cert.Halo
-- ==== Proof.Region1.lean ====
/-
# The second region

The stencil as a segment of the program: its data at whatever the buffers hold when it is entered, its body at every band,
and the passage between a device's buffers and the arrays of the windows, two of which read one array.
-/
module

public import proofs.«01_k».proof.Proof.Stencil
public import proofs.«01_k».proof.Proof.Region0
public import Idealize.ShloMosaic.Lib.Pipeline.FrameBody

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F] [∀ e, Nonempty (Elt F e)]

local notation "𝕄" => MT nD τ sig Unit (Elt F) ℕ UU ℕ

/-! ## What a band is, whatever the output held before -/

theorem inner_eq (x : Band F) (u d : Line F) (Z : Band F) : inner x u d Z = k1_pay4 x u d := by
  funext j
  have e : band.emb j = j := funext fun a => Fin.ext (by
    rw [Rect.emb_apply]; show (![0, 0] : Fin 2 → ℕ) a + 1 * (j a).val = (j a).val; rw [zero2 a]; omega)
  have h := laid_emb band (k1_pay4 x u d) Z j
  rw [e] at h
  exact h

/-- A band of the result. -/
def bandOf (c : Dev nD) (i : grid1.Coords) (x : Band F) (U D : S16x4096.Idx → Elt F .bf16) (w e : Side F) : Band F :=
  keepRow c (bandNo i) x (keepCol c x (sides x (lineOf i U) (lineOf i D) w e (k1_pay4 x (lineOf i U) (lineOf i D))))

theorem bandOut_eq (c : Dev nD) (i : grid1.Coords) (x : Band F) (U D : S16x4096.Idx → Elt F .bf16) (w e : Side F) (Z : Band F) :
    bandOut c i x U D w e Z = bandOf c i x U D w e := by
  unfold bandOut bandOf
  rw [inner_eq]

/-! ## The data -/

variable (W : Valuation τ sig (Elt F))

def x1 (t : Fin cfg1.N) : Band F := ((cfg1.win 0).blk t).view.read (Elt F) (W main_arg0)
def u1 : S16x4096.Idx → Elt F .bf16 := W main_v26
def d1 : S16x4096.Idx → Elt F .bf16 := W main_v27
def w1 (t : Fin cfg1.N) : Side F := ((cfg1.win 3).blk t).view.read (Elt F) (W main_v25)
def e1 (t : Fin cfg1.N) : Side F := ((cfg1.win 4).blk t).view.read (Elt F) (W main_v25)

/-- What the body leaves in each staging buffer. -/
def left1 (c : Dev nD) : (w : Fin 6) → Fin cfg1.N → (win1 w).block.Idx → Elt F (win1 w).elt
  | 0 => x1 W
  | 1 => fun _ => u1 W
  | 2 => fun _ => d1 W
  | 3 => w1 W
  | 4 => e1 W
  | 5 => fun t => bandOf c (grid1.coords t) (x1 W t) (u1 W) (d1 W) (w1 W t) (e1 W t)
  | ⟨_ + 6, h⟩ => absurd h (Nat.not_lt.2 (Nat.le_add_left _ _))

def dat1 (c : Dev nD) : Dat τ (Elt F) Unit ℕ UU ℕ cfg1 c where
  A w := W (dr (Pipeline.arrRef spec1 w))
  after := left1 W c
  Φ _ := Pipeline.scopedRest spec1 c
  q w := Pipeline.shareOf spec1 w
  owed _ := 0

theorem found1_0 (c : Dev nD) (t : Fin cfg1.N) (d) : (dat1 W c).before 0 t d = x1 W t :=
  ((dat1 W c).before_in_eq_fetched 0 rfl (fun _ => rfl) (fun _ _ _ => rfl) (fun _ => rfl) t d).trans rfl
theorem found1_3 (c : Dev nD) (t : Fin cfg1.N) (d) : (dat1 W c).before 3 t d = w1 W t :=
  ((dat1 W c).before_in_eq_fetched 3 rfl (fun _ => rfl) (fun _ _ _ => rfl) (fun _ => rfl) t d).trans rfl
theorem found1_4 (c : Dev nD) (t : Fin cfg1.N) (d) : (dat1 W c).before 4 t d = e1 W t :=
  ((dat1 W c).before_in_eq_fetched 4 rfl (fun _ => rfl) (fun _ _ _ => rfl) (fun _ => rfl) t d).trans rfl
theorem whole26 (t : Fin cfg1.N) : ((cfg1.win 1).blk t).view.read (Elt F) (W main_v26) = W main_v26 :=
  Memref.read_access_unit_zero (Elt F) main_v26 (show (fun a => cc1_transform_1 (grid1.coords t) a * S16x4096.size a) = fun _ => 0 from
    funext fun a => by rw [show cc1_transform_1 (grid1.coords t) a = 0 from by fin_cases a <;> rfl, Nat.zero_mul]) _ _
theorem whole27 (t : Fin cfg1.N) : ((cfg1.win 2).blk t).view.read (Elt F) (W main_v27) = W main_v27 :=
  Memref.read_access_unit_zero (Elt F) main_v27 (show (fun a => cc1_transform_2 (grid1.coords t) a * S16x4096.size a) = fun _ => 0 from
    funext fun a => by rw [show cc1_transform_2 (grid1.coords t) a = 0 from by fin_cases a <;> rfl, Nat.zero_mul]) _ _
theorem found1_1 (c : Dev nD) (t : Fin cfg1.N) (d) : (dat1 W c).before 1 t d = u1 W :=
  ((dat1 W c).before_in_eq_fetched 1 rfl (fun _ => rfl) (fun _ _ _ => rfl) (fun t => (whole26 W t).symm) t d).trans (whole26 W t)
theorem found1_2 (c : Dev nD) (t : Fin cfg1.N) (d) : (dat1 W c).before 2 t d = d1 W :=
  ((dat1 W c).before_in_eq_fetched 2 rfl (fun _ => rfl) (fun _ _ _ => rfl) (fun t => (whole27 W t).symm) t d).trans (whole27 W t)

theorem pick {c : Dev nD} {s : Shape} {e : EltTy} (m : Memref sig .tc .vmem s e) {D : Type} (f : D → s.Idx → Elt F e) (X) (h : ∀ d, f d = X) :
    (iprop(∃ d, owns (c : Thread nD τ) m fullShare (f d)) : sProp 𝕄) ⊢ owns (c : Thread nD τ) m fullShare X := by
  iintro ⟨%d, H⟩
  rw [h d]
  iexact H

theorem body1 (c : Dev nD) : Pipeline.BodyObligation (dat1 W c) (defs₀ (F := F)) 𝒱₀ () Set.univ := by
  intro t
  rw [bigSep_W1, bigSep_W1, show (dat1 W c).Φ t.castSucc = Pipeline.scopedRest spec1 c from rfl, show (dat1 W c).Φ t.succ = Pipeline.scopedRest spec1 c from rfl,
    show (dat1 W c).owesAt () t.succ = (dat1 W c).owesAt () t.castSucc from rfl]
  iintro ⟨Hs, HO, H0, H1, H2, H3, H4, ⟨%d, H5⟩⟩
  ihave H0 := (pick (c := c) (st1_0 t) _ (x1 W t) (found1_0 W c t)) $$ H0
  ihave H1 := (pick (c := c) (st1_1 t) _ (u1 W) (found1_1 W c t)) $$ H1
  ihave H2 := (pick (c := c) (st1_2 t) _ (d1 W) (found1_2 W c t)) $$ H2
  ihave H3 := (pick (c := c) (st1_3 t) _ (w1 W t) (found1_3 W c t)) $$ H3
  ihave H4 := (pick (c := c) (st1_4 t) _ (e1 W t) (found1_4 W c t)) $$ H4
  iapply (band_run c (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (x1 W t) (u1 W) (d1 W) (w1 W t) (e1 W t) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  rw [bandOut_eq]
  isplitl [Hs]; · iexact Hs
  isplitl [HO]; · iexact HO
  isplitl [H0]; · iexact H0
  isplitl [H1]; · iexact H1
  isplitl [H2]; · iexact H2
  isplitl [H3]; · iexact H3
  isplitl [H4]; · iexact H4
  iexact H5

/-! ## A device's buffers and the windows' arrays -/

abbrev five : Finset (DevRef τ sig) := {dr main_arg0, dr main_v26, dr main_v27, dr main_v25, dr main_v28}

theorem five_sub : five ⊆ Pipeline.ucRefs τ sig := by
  intro b hb
  simp only [five, Finset.mem_insert, Finset.mem_singleton] at hb
  rcases hb with rfl | rfl | rfl | rfl | rfl <;> exact mem_uc _ (by decide)

theorem held_five (c : Dev nD) :
    (StableHlo.held (c : Thread nD τ) (Pipeline.ucRefs τ sig) W : sProp 𝕄)
      = iprop((pt c main_arg0 (W main_arg0) ∗ pt c main_v26 (W main_v26) ∗ pt c main_v27 (W main_v27) ∗ pt c main_v25 (W main_v25)
          ∗ pt c main_v28 (W main_v28))
        ∗ StableHlo.held (c : Thread nD τ) (Pipeline.ucRefs τ sig \ five) W) := by
  rw [StableHlo.held_sub_split (c : Thread nD τ) five_sub W]
  congr 1
  unfold StableHlo.held
  rw [bigSep_insert (by decide), bigSep_insert (by decide), bigSep_insert (by decide), bigSep_insert (by decide), bigSep_singleton]
  rfl

theorem arrRefs1 : (Finset.univ : Finset (Fin 6)).image (Pipeline.arrRef spec1)
    = ({main_arg0, main_v26, main_v27, main_v25, main_v28} : Finset (Ref sig .tc)) := by decide

theorem arrays1 (c : Dev nD) (B : Valuation τ sig (Elt F)) (G) (hG : ∀ w, G w = B (dr (Pipeline.arrRef spec1 w))) :
    (iprop(pt c main_arg0 (B main_arg0) ∗ pt c main_v26 (B main_v26) ∗ pt c main_v27 (B main_v27) ∗ pt c main_v25 (B main_v25)
          ∗ pt c main_v28 (B main_v28)) : sProp 𝕄) = (dat1 W c).arrays G := by
  rw [← (dat1 W c).arrBufs_eq_arrays sharedIn1 arr_whole1 (fun w _ => rfl) (fun b => B (dr b)) G hG]
  unfold Pipeline.arrBufs
  rw [show Finset.univ.image (Pipeline.arrRef cfg1.spec) = ({main_arg0, main_v26, main_v27, main_v25, main_v28} : Finset (Ref sig .tc)) from arrRefs1,
    bigSep_insert (by decide), bigSep_insert (by decide), bigSep_insert (by decide), bigSep_insert (by decide), bigSep_singleton]
  rfl

end Cert.Halo

end
-- ==== Proof.Segments.lean ====
/-
# The segments after the exchange

The reshapes between the two regions and the second region, each run at every content the exchange may have left.
-/
module

public import proofs.«01_k».proof.Proof.Region1

@[expose] public section

noncomputable section

namespace Cert.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F] [∀ e, Nonempty (Elt F e)]

local notation "𝕄" => MT nD τ sig Unit (Elt F) ℕ UU ℕ

/-! ## The second region at the buffers it finds -/

section Second

variable (W : Valuation τ sig (Elt F))

/-- Data for the first call, which the second one's record does not run. -/
def idle0 (c : Dev nD) : Dat τ (Elt F) Unit ℕ UU ℕ cfg0 c where
  A w := W (dr (Pipeline.arrRef spec0 w))
  after _ _ _ := Classical.choice inferInstance
  Φ _ := Pipeline.scopedRest spec0 c
  q _ := fullShare
  owed _ := 0

def dats1 : (p : Fin 2) → (c : Dev nD) → Dat τ (Elt F) Unit ℕ UU ℕ (Pipeline.pin (pcfgs (F := F)) adm p) c
  | 0 => idle0 W
  | 1 => dat1 W
  | ⟨_ + 2, h⟩ => absurd h (Nat.not_lt.2 (Nat.le_add_left _ _))

theorem staging1 : ∀ (w : Fin 6) (s : Fin (spec1 w).nbuf), (spec1 w).sem s ≠ r0 ∧ (spec1 w).sem s ≠ r1 := by decide
theorem lv_staging1 (c : Dev nD) (w : Fin 6) (s : Fin (spec1 w).nbuf) : lv ((c : Thread nD τ), SemLoc.dma ((spec1 w).sem s)) () ≤ 0 := by
  unfold lv
  rw [if_neg (by intro h; cases h), if_neg]
  rintro (h | h)
  · exact (staging1 w s).1 (SemLoc.dma.inj h)
  · exact (staging1 w s).2 (SemLoc.dma.inj h)

theorem cut1 : Pipeline.LevelCut (nD := nD) (τ := τ) (pcfgs (F := F)) adm () L lv 1 (fun _ => 0) (fun _ => 0) where
  hι c w s := by rw [L_tc]; exact Finset.mem_singleton_self _
  hιb c w s := lv_staging1 c w s
  hD c g i h := absurd h (lt_irrefl 0)

/-- The stencil as a segment, beside anything. -/
def record1 (R : Dev nD → sProp (MT nD τ sig Unit (Elt F) ℕ UU ℕ)) :
    Pipeline.RegionSeg (pcfgs (F := F)) adm (dats1 W) () (defs₀ (F := F)) 𝒱₀ L lv 1 :=
  Pipeline.RegionSeg.ofArrays (pcfgs (F := F)) adm (dats1 W) () (defs₀ (F := F)) 𝒱₀ L lv 1 (fun _ => 0) (fun _ => iprop(emp)) (fun _ => iprop(emp))
    launch₀1.toP rfl (fun c => (body1 W c).loose) (fun c t => rfl) (fun c => rfl)
    (fun c => (show iprop(Pipeline.scopedRest spec1 c ∗ emp) ⊢ Pipeline.scopedRest spec1 c from by iintro ⟨H, -⟩; iexact H))
    (fun c => (show Pipeline.scopedRest spec1 c ⊢ iprop(Pipeline.scopedRest spec1 c ∗ emp) from by
      iintro H; isplitl [H]; · iexact H
      iempintro))
    (fun _ => 0) cut1 R

/-- A device's buffers when the stencil has run. -/
abbrev after1 (c : Dev nD) : Valuation τ sig (Elt F) := Function.update W main_v28 ((dat1 W c).arrAt 5 cfg1.N)

theorem found_start (c : Dev nD) (w : Fin 6) : (dat1 W c).arrAt w 0 = W (dr (Pipeline.arrRef spec1 w)) := rfl

theorem found_end (c : Dev nD) : ∀ w : Fin 6, (dat1 W c).arrAt w cfg1.N = after1 W c (dr (Pipeline.arrRef spec1 w))
  | 0 => ((dat1 W c).arrAt_in 0 rfl _).trans (Function.update_of_ne (show (dr main_arg0 : DevRef τ sig) ≠ dr main_v28 from by decide) _ _).symm
  | 1 => ((dat1 W c).arrAt_in 1 rfl _).trans (Function.update_of_ne (show (dr main_v26 : DevRef τ sig) ≠ dr main_v28 from by decide) _ _).symm
  | 2 => ((dat1 W c).arrAt_in 2 rfl _).trans (Function.update_of_ne (show (dr main_v27 : DevRef τ sig) ≠ dr main_v28 from by decide) _ _).symm
  | 3 => ((dat1 W c).arrAt_in 3 rfl _).trans (Function.update_of_ne (show (dr main_v25 : DevRef τ sig) ≠ dr main_v28 from by decide) _ _).symm
  | 4 => ((dat1 W c).arrAt_in 4 rfl _).trans (Function.update_of_ne (show (dr main_v25 : DevRef τ sig) ≠ dr main_v28 from by decide) _ _).symm
  | 5 => (Function.update_self (dr main_v28) _ W).symm
  | ⟨_ + 6, h⟩ => absurd h (Nat.not_lt.2 (Nat.le_add_left _ _))

theorem rest_after1 (c : Dev nD) :
    (StableHlo.held (c : Thread nD τ) (Pipeline.ucRefs τ sig \ five) W : sProp 𝕄)
      = StableHlo.held (c : Thread nD τ) (Pipeline.ucRefs τ sig \ five) (after1 W c) :=
  StableHlo.held_congr (c : Thread nD τ) fun b hb => by
    have hb := (Finset.mem_sdiff.mp hb).2
    simp only [five, Finset.mem_insert, Finset.mem_singleton, not_or] at hb
    exact (Function.update_of_ne hb.2.2.2.2 _ _).symm

abbrev cells1 (c : Dev nD) : sProp (MT nD τ sig Unit (Elt F) ℕ UU ℕ) :=
  iprop(Pipeline.cellsGhost (Pipeline.pin (pcfgs (F := F)) adm) EQ 1 c ∗ Pipeline.toksInit (Pipeline.pin (pcfgs (F := F)) adm) EQ 1 c)

theorem second_run (c : Dev nD) {β : Type} (k : PUnit → Prog (TpuEff nD τ sig (Elt F) (Pipeline.Sig Λ₀ (Fin 2) fun p => ((pcfgs (F := F)) p).Adm) .tc) β) (K : β → sProp (MT nD τ sig Unit (Elt F) ℕ UU ℕ)) :
    iprop((iprop(boundary (c.tc : Thread nD τ) ∗ StableHlo.held (c : Thread nD τ) (Pipeline.ucRefs τ sig) (after1 W c)
          ∗ ∃ B, owes (c : Thread nD τ) (0 : CellTallies nD τ sig Unit) B)
        -∗ wp frame (wpE (defs (F := F)) (Variants.lift 𝒱₀ : Variants) (c.tc : Thread nD τ) none) Set.univ (k ⟨⟩) K)
      ∗ boundary (c.tc : Thread nD τ) ∗ (StableHlo.held (c : Thread nD τ) (Pipeline.ucRefs τ sig) W
          ∗ ∃ B, owes (c : Thread nD τ) (0 : CellTallies nD τ sig Unit) B)
      ∗ levAts L lv ∗ cells1 (F := F) c)
      ⊢ wp frame (wpE (defs (F := F)) (Variants.lift 𝒱₀ : Variants) (c.tc : Thread nD τ) none) Set.univ (.op (.customCall (Pipeline.entry 1) ()) k) K := by
  have h := Pipeline.RegionSeg.wp (pcfgs (F := F)) adm (dats1 W) () cellOf_inj EQ (defs₀ (F := F)) 𝒱₀ L lv
    (record1 W fun c => StableHlo.held (c : Thread nD τ) (Pipeline.ucRefs τ sig \ five) W) c none (fun _ h => by cases h) k K
  refine BIBase.Entails.trans ?_ h
  show _ ⊢ iprop((iprop(boundary (c.tc : Thread nD τ) ∗ ((dat1 W c).arrays ((dat1 W c).arrAt · cfg1.N) ∗ emp
      ∗ StableHlo.held (c : Thread nD τ) (Pipeline.ucRefs τ sig \ five) W ∗ ∃ B, owes (c : Thread nD τ) (0 : CellTallies nD τ sig Unit) B)) -∗ _)
    ∗ boundary (c.tc : Thread nD τ) ∗ ((dat1 W c).arrays ((dat1 W c).arrAt · 0) ∗ emp
      ∗ StableHlo.held (c : Thread nD τ) (Pipeline.ucRefs τ sig \ five) W ∗ ∃ B, owes (c : Thread nD τ) (0 : CellTallies nD τ sig Unit) B)
    ∗ levAts L lv ∗ _ ∗ _)
  rw [← arrays1 W c W _ (found_start W c), ← arrays1 W c (after1 W c) _ (found_end W c), held_five W c, held_five (after1 W c) c, rest_after1 W c]
  iintro ⟨Hk, Hbd, ⟨⟨Hf, Hr⟩, HO⟩, HL, Hc, Ht⟩
  isplitl [Hk]
  · iintro ⟨Hbd, Hf, -, Hr, HO⟩
    iapply Hk
    isplitl [Hbd]; · iexact Hbd
    isplitl [Hf Hr]
    · isplitl [Hf] <;> iassumption
    iexact HO
  isplitl [Hbd]; · iexact Hbd
  isplitl [Hf Hr HO]
  · isplitl [Hf]; · iexact Hf
    isplitr; · iempintro
    isplitl [Hr] <;> iassumption
  isplitl [HL]; · iexact HL
  isplitl [Hc] <;> iassumption

end Second

/-! ## The two segments -/

variable (V : Dev nD → Valuation τ sig (Elt F))

/-- A device's buffers after the exchange and the reshapes that follow it. -/
abbrev mid (U D : S16x1x4096.Idx → Elt F .bf16) (c : Dev nD) : Valuation τ sig (Elt F) := StableHlo.after hostOps1 (after0 V U D c)

/-- What the exchange left, the reshapes done. -/
def reshaped (c : Dev nD) : sProp (MT nD τ sig Unit (Elt F) ℕ UU ℕ) :=
  iprop((∃ U D, ⌜upGood c (xv V c) (rv V (xn c)) U ∧ dnGood c (xv V c) (rv V (xn c)) D⌝
      ∗ StableHlo.held (c : Thread nD τ) (Pipeline.ucRefs τ sig) (mid V U D c))
    ∗ semVal (barCell c) 0 ∗ (∃ W, owes (c : Thread nD τ) 0 W) ∗ cells1 (F := F) c)

/-- What the program leaves. -/
def done (c : Dev nD) : sProp (MT nD τ sig Unit (Elt F) ℕ UU ℕ) :=
  iprop((∃ U D, ⌜upGood c (xv V c) (rv V (xn c)) U ∧ dnGood c (xv V c) (rv V (xn c)) D⌝
      ∗ StableHlo.held (c : Thread nD τ) (Pipeline.ucRefs τ sig) (after1 (mid V U D c) c))
    ∗ semVal (barCell c) 0)

set_option backward.isDefEq.respectTransparency.types false in
def reshapes : Pipeline.HostSeg (Ix := Unit) (Name := ℕ) (U := UU) (Lvl := ℕ) (pcfgs (F := F)) defs₀ 𝒱₀ L lv where
  prog := StableHlo.seq hostOps1
  pre c := iprop((∃ U D, ⌜upGood c (xv V c) (rv V (xn c)) U ∧ dnGood c (xv V c) (rv V (xn c)) D⌝
      ∗ StableHlo.held (c : Thread nD τ) (Pipeline.ucRefs τ sig) (after0 V U D c))
    ∗ semVal (barCell c) 0 ∗ (∃ W, owes (c : Thread nD τ) 0 W) ∗ cells1 (F := F) c)
  post c := reshaped V c
  run c {β} k K := by
    unfold reshaped
    iintro ⟨Hk, Hbd, ⟨⟨%U, %D, %hg, Hh⟩, Hr⟩, -⟩
    have hseq := StableHlo.wp_seq (defs := defs (F := F)) (Variants.lift 𝒱₀ : Variants) none Set.univ c (Pipeline.ucRefs τ sig) k (K := K) hostOps1
      (fun op h => Pipeline.sub_ucRefs op ((List.forall_iff_forall_mem.mp hostOps1_sub) op h))
      (fun op h => (List.forall_iff_forall_mem.mp hostOps1_fresh) op h) (after0 V U D c)
    iapply hseq $$ [Hbd Hh]
    · isplitl [Hbd] <;> iassumption
    iintro ⟨Hbd, Hh⟩
    iapply Hk
    isplitl [Hbd]; · iexact Hbd
    isplitl [Hh]
    · iexists U, D
      isplitr; · ipureintro; exact hg
      iexact Hh
    iexact Hr

set_option backward.isDefEq.respectTransparency.types false in
def stencil : Pipeline.HostSeg (Ix := Unit) (Name := ℕ) (U := UU) (Lvl := ℕ) (pcfgs (F := F)) defs₀ 𝒱₀ L lv where
  prog := Prog.lift (.customCall (Pipeline.entry 1) ())
  pre c := reshaped V c
  post c := iprop(done V c ∗ ∃ W, owes (c : Thread nD τ) (0 : CellTallies nD τ sig Unit) W)
  run c {β} k K := by
    unfold reshaped done
    iintro ⟨Hk, Hbd, ⟨⟨%U, %D, %hg, Hh⟩, Hb, HO, Hc⟩, HL⟩
    iapply (second_run (mid V U D c) c k K)
    isplitl [Hk Hb]
    · iintro ⟨Hbd, Hh, HO⟩
      iapply Hk
      isplitl [Hbd]; · iexact Hbd
      isplitl [Hh Hb]
      · isplitl [Hh]
        · iexists U, D
          isplitr; · ipureintro; exact hg
          iexact Hh
        iexact Hb
      iexact HO
    isplitl [Hbd]; · iexact Hbd
    isplitl [Hh HO]
    · isplitl [Hh] <;> iassumption
    isplitl [HL] <;> iassumption

end Cert.Halo

end
-- ==== Proof.Launch.lean ====
/-
# The launch

What the devices start from: every cell's invariant made once and shared, the positions, the rights to open and the tokens dealt
to the devices that use them, and the credit each device holds for what its neighbours owe it.
-/
module

public import proofs.«01_k».proof.Proof.Segments
public import Idealize.ShloMosaic.Harness.Basic

@[expose] public section

noncomputable section

namespace Cert.Halo

open Cert.KernelIdeal Cert.KernelIdeal.Gen

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F] [∀ e, Nonempty (Elt F e)]

local notation "𝕄" => MT nD τ sig Unit (Elt F) ℕ UU ℕ

/-! ## The cells and the tokens -/

/-- The four transfer semaphores. -/
abbrev wire : Fin 4 → SemLoc sig := fun | 0 => .dma s0 | 1 => .dma s1 | 2 => .dma r0 | 3 => .dma r1
theorem wire_inj : Function.Injective wire := by decide

def barAt : Dev nD ↪ GSem nD τ sig := ⟨fun c => barCell c, fun _ _ h => congrArg (fun g : GSem nD τ sig => g.1.1) h⟩
def wireAt : Dev nD × Fin 4 ↪ GSem nD τ sig :=
  ⟨fun p => ((p.1 : Thread nD τ), wire p.2), fun _ _ h => Prod.ext (congrArg (fun g : GSem nD τ sig => g.1.1) h) (wire_inj (congrArg Prod.snd h))⟩

abbrev bars : Finset (GSem nD τ sig) := Finset.univ.map barAt
abbrev wires : Finset (GSem nD τ sig) := Finset.univ.map wireAt

theorem bars_wires : Disjoint (bars : Finset (GSem nD τ sig)) wires := by
  rw [Finset.disjoint_left]
  intro g h h'
  obtain ⟨c, -, rfl⟩ := Finset.mem_map.mp h
  obtain ⟨p, -, e⟩ := Finset.mem_map.mp h'
  exact (show ∀ k : Fin 4, wire k ≠ .reg barS by decide) p.2 (congrArg Prod.snd e)

theorem bar_in (c : Dev nD) : barCell c ∈ (bars ∪ wires : Finset (GSem nD τ sig)) :=
  Finset.mem_union_left _ (Finset.mem_map_of_mem barAt (Finset.mem_univ c))
theorem wire_in (c : Dev nD) (k : Fin 4) : ((c : Thread nD τ), wire k) ∈ (bars ∪ wires : Finset (GSem nD τ sig)) :=
  Finset.mem_union_right _ (Finset.mem_map_of_mem wireAt (Finset.mem_univ (c, k)))

/-- Each device's six duties: two at its barrier cell, one at each transfer cell. -/
abbrev dutyAt : Fin 6 → SemLoc sig × Bool := fun
  | 0 => (.reg barS, false) | 1 => (.reg barS, true) | 2 => (.dma r0, false) | 3 => (.dma r1, false) | 4 => (.dma s0, false) | 5 => (.dma s1, false)
theorem dutyAt_inj : Function.Injective dutyAt := by decide

def tickets : Finset (GSem nD τ sig × ℕ × Bool) :=
  Finset.univ.map ⟨fun p : Dev nD × Fin 6 => (((p.1 : Thread nD τ), (dutyAt p.2).1), 0, (dutyAt p.2).2), fun _ _ h =>
    Prod.ext (congrArg (fun t : GSem nD τ sig × ℕ × Bool => t.1.1.1) h)
      (dutyAt_inj (Prod.ext (congrArg (fun t : GSem nD τ sig × ℕ × Bool => t.1.2) h) (congrArg (fun t : GSem nD τ sig × ℕ × Bool => t.2.2) h)))⟩

theorem over4 (Φ : Fin 4 → sProp (MT nD τ sig Unit (Elt F) ℕ UU ℕ)) : bigSep Finset.univ Φ = iprop(Φ 0 ∗ Φ 1 ∗ Φ 2 ∗ Φ 3) :=
  bigSep_univ_eq_bigSepL [0, 1, 2, 3] (by decide) (by decide) Φ
theorem over6 (Φ : Fin 6 → sProp (MT nD τ sig Unit (Elt F) ℕ UU ℕ)) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Every token, dealt to the device that pays its duty. -/
theorem tickets_dealt :
    (bigSep tickets (fun t => dutyTok ER t.1 t.2.1 t.2.2) : sProp 𝕄) ⊢ bigSep Finset.univ fun c : Dev nD => toPay c := by
  have e : (bigSep tickets (fun t => dutyTok ER t.1 t.2.1 t.2.2) : sProp 𝕄)
      = bigSep Finset.univ fun c : Dev nD => iprop(dutyTok ER (barCell c) 0 false ∗ dutyTok ER (barCell c) 0 true ∗ dutyTok ER (r0Cell c) 0 false
          ∗ dutyTok ER (r1Cell c) 0 false ∗ dutyTok ER (s0Cell c) 0 false ∗ dutyTok ER (s1Cell c) 0 false) := by
    unfold tickets
    rw [bigSep_map, bigSep_univ_prod]
    exact bigSep_congr fun c _ => over6 _
  rw [e]
  unfold toPay
  simp only [bigSep_sep']
  rw [bigSep_univ_equiv acrossX (fun c : Dev nD => (dutyTok ER (barCell c) 0 false : sProp 𝕄)),
    bigSep_univ_equiv acrossY (fun c : Dev nD => (dutyTok ER (barCell c) 0 true : sProp 𝕄)),
    bigSep_univ_equiv acrossX (fun c : Dev nD => (dutyTok ER (r0Cell c) 0 false : sProp 𝕄)),
    bigSep_univ_equiv acrossY (fun c : Dev nD => (dutyTok ER (r1Cell c) 0 false : sProp 𝕄))]
  exact BI.Entails.refl _

/-! ## The credit -/

theorem tally_dev (d c c' : Dev nD) (sm : SemLoc sig) (n : ℕ) :
    (tallyAt ((c' : Thread nD τ), sm) () n : CellTallies nD τ sig Unit) ((c : Thread nD τ), sm) () = if c = c' then n else 0 := by
  rw [tallyAt_apply]
  by_cases h : c = c'
  · rw [if_pos ⟨by rw [h], rfl⟩, if_pos h]
  · rw [if_neg (fun e => h (congrArg (fun g : GSem nD τ sig => g.1.1) e.1)), if_neg h]
theorem tally_other (c c' : Dev nD) {sm sm' : SemLoc sig} (h : sm ≠ sm') (n : ℕ) :
    (tallyAt ((c' : Thread nD τ), sm') () n : CellTallies nD τ sig Unit) ((c : Thread nD τ), sm) () = 0 := by
  rw [tallyAt_ne_cell (fun e => h (congrArg Prod.snd e)), Finsupp.zero_apply]

theorem owed_sum (d c : Dev nD) (sm : SemLoc sig) : O₀ d ((c : Thread nD τ), sm) ()
    = tallyAt (r1Cell (yn d)) () N ((c : Thread nD τ), sm) () + tallyAt (r0Cell (xn d)) () N ((c : Thread nD τ), sm) ()
      + tallyAt (barCell (yn d)) () 1 ((c : Thread nD τ), sm) () + tallyAt (barCell (xn d)) () 1 ((c : Thread nD τ), sm) () := by
  unfold O₀ Oc
  rw [Pi.add_apply, Finsupp.add_apply, Pi.add_apply, Finsupp.add_apply, Pi.add_apply, Finsupp.add_apply]

theorem flip_x (d c : Dev nD) : c = xn d ↔ d = xn c := ⟨fun h => by rw [h, xn_xn], fun h => by rw [h, xn_xn]⟩
theorem flip_y (d c : Dev nD) : c = yn d ↔ d = yn c := ⟨fun h => by rw [h, yn_yn], fun h => by rw [h, yn_yn]⟩

theorem owed_bar (d c : Dev nD) : O₀ d (barCell c) () = (if d = yn c then 1 else 0) + if d = xn c then 1 else 0 := by
  rw [owed_sum, tally_other _ _ (dma_ne_bar r1).symm, tally_other _ _ (dma_ne_bar r0).symm, tally_dev d, tally_dev d]
  simp only [flip_x, flip_y, Nat.zero_add]
theorem owed_r0 (d c : Dev nD) : O₀ d (r0Cell c) () = if d = xn c then N else 0 := by
  rw [owed_sum, tally_other _ _ (by decide), tally_dev d, tally_other _ _ (dma_ne_bar r0), tally_other _ _ (dma_ne_bar r0)]
  simp only [flip_x, Nat.zero_add, Nat.add_zero]
theorem owed_r1 (d c : Dev nD) : O₀ d (r1Cell c) () = if d = yn c then N else 0 := by
  rw [owed_sum, tally_dev d, tally_other _ _ (by decide), tally_other _ _ (dma_ne_bar r1), tally_other _ _ (dma_ne_bar r1)]
  simp only [flip_y, Nat.add_zero]

theorem credit_of (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem sum_bar (c : Dev nD) : ∑ d : Dev nD, O₀ d (barCell c) () = 2 := by
  rw [Finset.sum_congr rfl fun d _ => owed_bar d c, Finset.sum_add_distrib, Finset.sum_ite_eq' Finset.univ (yn c) fun _ => 1,
    Finset.sum_ite_eq' Finset.univ (xn c) fun _ => 1, if_pos (Finset.mem_univ _), if_pos (Finset.mem_univ _)]
theorem sum_r0 (c : Dev nD) : ∑ d : Dev nD, O₀ d (r0Cell c) () = N := by
  rw [Finset.sum_congr rfl fun d _ => owed_r0 d c, Finset.sum_ite_eq' Finset.univ (xn c) fun _ => N, if_pos (Finset.mem_univ _)]
theorem sum_r1 (c : Dev nD) : ∑ d : Dev nD, O₀ d (r1Cell c) () = N := by
  rw [Finset.sum_congr rfl fun d _ => owed_r1 d c, Finset.sum_ite_eq' Finset.univ (yn c) fun _ => N, if_pos (Finset.mem_univ _)]

theorem credits (c : Dev nD) : (Pipeline.launchCred O₀ c : sProp 𝕄) ⊢ toGet c := by
  unfold Pipeline.launchCred toGet
  rw [bigSep_univ_at _ (SemLoc.reg barS), credit_of (barCell c) 2 (sum_bar c), ← credit_of (r0Cell c) N (sum_r0 c), ← credit_of (r1Cell c) N (sum_r1 c),
    show Finset.univ.erase (SemLoc.reg barS : SemLoc sig) = insert (SemLoc.dma r0) ((Finset.univ.erase (SemLoc.reg barS)).erase (SemLoc.dma r0)) from
      (Finset.insert_erase (Finset.mem_erase.mpr ⟨dma_ne_bar r0, Finset.mem_univ _⟩)).symm,
    bigSep_insert (Finset.notMem_erase _ _)]
  refine BIClass.sep_mono (BI.Entails.refl _) (BIClass.sep_mono (BI.Entails.refl _) ?_)
  exact bigSep_elim (Finset.mem_erase.mpr ⟨by decide, Finset.mem_erase.mpr ⟨dma_ne_bar r1, Finset.mem_univ _⟩⟩)

/-! ## What every device may consult, and what each one gets -/

variable (Rv : Dev nD → S1x1x4096.Idx → Elt F .bf16) (Cv : Dev nD → S32x128.Idx → Elt F .bf16)

def common (κ : GSem nD τ sig → ℕ) : sProp (MT nD τ sig Unit (Elt F) ℕ UU ℕ) :=
  iprop((bigSep (bars ∪ wires) fun g => cellInv ER (Rd Rv Cv) (κ g) g) ∗ bigSep bars fun g => reached ER g 0)

instance common_persistent (κ : GSem nD τ sig → ℕ) : BI.Persistent (common (F := F) Rv Cv κ) := by unfold common; infer_instance

theorem look (κ : GSem nD τ sig → ℕ) {g : GSem nD τ sig} (h : g ∈ (bars ∪ wires : Finset (GSem nD τ sig))) :
    common (F := F) Rv Cv κ ⊢ cellInv ER (Rd Rv Cv) (κ g) g := by
  unfold common
  exact sep_elim_left.trans (bigSep_elim h)
theorem look_bar (κ : GSem nD τ sig → ℕ) (c : Dev nD) : common (F := F) Rv Cv κ ⊢ reached ER (barCell c) 0 := by
  unfold common
  exact sep_elim_right.trans (bigSep_elim (Finset.mem_map_of_mem barAt (Finset.mem_univ c)))

theorem common_known (κ : GSem nD τ sig → ℕ) (c : Dev nD) : common (F := F) Rv Cv κ ⊢ known Rv Cv κ c := by
  unfold known
  iintro #H
  isplitr; · iapply (look Rv Cv κ (bar_in c)); iexact H
  isplitr; · iapply (look Rv Cv κ (wire_in c 0)); iexact H
  isplitr; · iapply (look Rv Cv κ (wire_in c 1)); iexact H
  isplitr; · iapply (look Rv Cv κ (wire_in c 2)); iexact H
  isplitr; · iapply (look Rv Cv κ (wire_in c 3)); iexact H
  isplitr; · iapply (look Rv Cv κ (bar_in (xn c))); iexact H
  isplitr; · iapply (look Rv Cv κ (bar_in (yn c))); iexact H
  isplitr; · iapply (look Rv Cv κ (wire_in (xn c) 2)); iexact H
  isplitr; · iapply (look Rv Cv κ (wire_in (yn c) 3)); iexact H
  isplitr; · iapply (look_bar Rv Cv κ (xn c)); iexact H
  iapply (look_bar Rv Cv κ (yn c)); iexact H

/-- A device's own part of the ghost state. -/
def dealt (c : Dev nD) : sProp (MT nD τ sig Unit (Elt F) ℕ UU ℕ) :=
  iprop(atPos ER (barCell c) 0 ∅ 0 ∗ (openTok ER (s0Cell c) ∗ openTok ER (s1Cell c) ∗ openTok ER (r0Cell c) ∗ openTok ER (r1Cell c)) ∗ toPay c)

theorem closed_intro (κ : GSem nD τ sig → ℕ) (c : Dev nD) :
    iprop(common Rv Cv κ ∗ dealt (F := F) c ∗ toGet c) ⊢ closed Rv Cv c := by
  unfold closed dealt
  iintro ⟨#HK, ⟨Ha, Ho, Ht⟩, Hg⟩
  isplitr
  · iexists κ; iapply (common_known Rv Cv κ c); iexact HK
  isplitl [Ha]; · iexact Ha
  isplitl [Ho]; · iexact Ho
  isplitl [Ht] <;> iassumption

/-- The protocol's launch element, at every device. -/
theorem fund :
    iprop((bigSep Finset.univ fun c : Dev nD => semVal (barCell c) 0) ∗ BI.own (ER (launchOf bars wires tickets)))
      ⊢ (|={Set.univ}=> ∃ κ, common Rv Cv κ ∗ bigSep Finset.univ fun c : Dev nD => dealt c : sProp 𝕄) := by
  have hv : (bigSep Finset.univ fun c : Dev nD => (semVal (barCell c) 0 : sProp 𝕄)) ⊢ bigSep bars (fun g => semVal g 0) :=
    Entails.of_eq (bigSep_map (s := Finset.univ) barAt (Φ := fun g : GSem nD τ sig => (semVal g 0 : sProp 𝕄))).symm
  have hat : bigSep bars (fun g => (atPos ER g 0 ∅ 0 : sProp 𝕄)) ⊢ bigSep Finset.univ (fun c : Dev nD => atPos ER (barCell c) 0 ∅ 0) :=
    Entails.of_eq (bigSep_map (s := Finset.univ) barAt (Φ := fun g : GSem nD τ sig => (atPos ER g 0 ∅ 0 : sProp 𝕄)))
  have hopen : bigSep wires (fun g => (openTok ER g : sProp 𝕄))
      ⊢ bigSep Finset.univ (fun c : Dev nD => iprop(openTok ER (s0Cell c) ∗ openTok ER (s1Cell c) ∗ openTok ER (r0Cell c) ∗ openTok ER (r1Cell c))) :=
    Entails.of_eq (by
      rw [bigSep_map, bigSep_univ_prod]
      exact bigSep_congr fun c _ => over4 (fun k : Fin 4 => (openTok ER ((c : Thread nD τ), wire k) : sProp 𝕄)))
  iintro ⟨Hv, Hu⟩
  ihave Hv := hv $$ Hv
  imod (Rounds.fund_launch ER (Rd Rv Cv) bars_wires (fun g _ h => h) tickets) $$ [Hv Hu] with ⟨%κ, -, #HI, #Hr, Hat, Hopen, Htok⟩
  · isplitl [Hv] <;> iassumption
  imodintro
  iexists κ
  isplitr
  · unfold common
    isplitr; · iexact HI
    iexact Hr
  unfold dealt
  iapply Smoke.bigSep_pair; isplitl [Hat]; · iapply hat $$ Hat
  iapply Smoke.bigSep_pair; isplitl [Hopen]; · iapply hopen $$ Hopen
  iapply (tickets_dealt (F := F)) $$ Htok

end Cert.Halo

end
-- ==== Proof.Run.lean ====
/-
# The run

The whole program over any float values: it runs to the end, leaves its argument as it was, every counter at zero and, in the
result, what the stencil makes of the rows and the column that arrived.
-/
module

public import proofs.«01_k».proof.Proof.Launch
public import Idealize.ShloMosaic.Adequacy
public import Idealize.ShloMosaic.Init

@[expose] public section

noncomputable section

namespace Cert.Halo

open Cert.KernelIdeal Cert.KernelIdeal.Gen

open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- The launch element of the pipelines' algebra. -/
abbrev pipes : UR sig nD τ :=
  initOf (Pipeline.cells (Pipeline.pin (pcfgs (F := F)) adm) cellOf_inj) (Pipeline.launchToks (Pipeline.pin (pcfgs (F := F)) adm) cellOf_inj)

def u₀ : UU := (pipes (F := F), pipes (F := F), launchOf bars wires tickets, 1)

/-- All of a resource, on the first device. -/
def atFirst (X : sProp (MT nD τ sig Unit (Elt F) ℕ UU ℕ)) (c : Dev nD) : sProp (MT nD τ sig Unit (Elt F) ℕ UU ℕ) := if c = 0 then X else iprop(emp)
theorem sum_atFirst (X : sProp (MT nD τ sig Unit (Elt F) ℕ UU ℕ)) : bigSep Finset.univ (atFirst X) = X := by
  rw [bigSep_univ_at _ (0 : Dev nD), bigSep_congr (s := Finset.univ.erase (0 : Dev nD)) (Ψ := fun _ => (BI.emp : sProp (MT nD τ sig Unit (Elt F) ℕ UU ℕ)))
      fun c hc => by unfold atFirst; rw [if_neg (Finset.ne_of_mem_erase hc)]; rfl, BI.bigSep_emp_const]
  unfold atFirst; rw [if_pos rfl]
  exact BI.equiv_iff.mp sep_emp

abbrev seed : sProp (MT nD τ sig Unit (Elt F) ℕ UU ℕ) :=
  iprop(BI.own (EQ (pipes (F := F))) ∗ BI.own (ER (launchOf bars wires tickets)))

theorem deal_seed : (ownU (u₀ (F := F)) : sProp 𝕄)
    ⊢ |={Set.univ}=> iprop(BI.own (EP (pipes (F := F))) ∗ bigSep Finset.univ (atFirst (seed (F := F)))) := by
  rw [sum_atFirst]
  unfold u₀ seed
  iintro Hu
  ihave H := (ownU_pair _ _) $$ Hu
  icases H with ⟨HP, HX⟩
  ihave H := (own_pair_emb _ _ _) $$ HX
  icases H with ⟨HQ, HX⟩
  ihave H := (own_pair_emb _ _ _) $$ HX
  icases H with ⟨HR, -⟩
  imodintro
  isplitl [HP]; · iexact HP
  isplitl [HQ] <;> iassumption

/-- The second call's cells, at every device. -/
theorem fund_second : (BI.own (EQ (pipes (F := F))) : sProp 𝕄) ⊢ iprop(|==> bigSep Finset.univ fun c : Dev nD => cells1 (F := F) c) := by
  iintro H
  imod (Pipeline.fund_ghost (Pipeline.pin (pcfgs (F := F)) adm) EQ cellOf_inj) $$ H with ⟨Hg, Ht⟩
  imodintro
  iapply Smoke.bigSep_pair
  isplitl [Hg]
  · iapply (show (bigSep Finset.univ fun c : Dev nD => bigSep Finset.univ fun p : Fin 2 => (Pipeline.cellsGhost (Pipeline.pin (pcfgs (F := F)) adm) EQ p c : sProp 𝕄))
        ⊢ bigSep Finset.univ fun c : Dev nD => Pipeline.cellsGhost (Pipeline.pin (pcfgs (F := F)) adm) EQ 1 c from
      bigSep_mono fun c _ => bigSep_elim (Finset.mem_univ (1 : Fin 2)))
    iexact Hg
  · iapply (show (bigSep Finset.univ fun c : Dev nD => bigSep Finset.univ fun p : Fin 2 => (Pipeline.toksInit (Pipeline.pin (pcfgs (F := F)) adm) EQ p c : sProp 𝕄))
        ⊢ bigSep Finset.univ fun c : Dev nD => Pipeline.toksInit (Pipeline.pin (pcfgs (F := F)) adm) EQ 1 c from
      bigSep_mono fun c _ => bigSep_elim (Finset.mem_univ (1 : Fin 2)))
    iexact Ht

/-! ## The segments -/

/-- A device's buffers when the exchange begins. -/
abbrev Vm : Dev nD → Valuation τ sig (Elt F) := V1 m

/-- What a device holds beside its buffers until then. -/
abbrev beside (c : Dev nD) : sProp (MT nD τ sig Unit (Elt F) ℕ UU ℕ) :=
  iprop(closed (rv (Vm m)) (cv (Vm m)) c ∗ (∃ W, owes (c : Thread nD τ) (O₀ c) W) ∗ cells1 (F := F) c)

abbrev rd1 : (c : Dev nD) → RDat τ (Elt F) Unit ℕ UU ℕ cfg1 c := fun c => (dat1 (Vm m c) c).toR

def parts (c : Dev nD) : List (RDat.Seg (pcfgs (F := F)) adm (rdats (Vm m) (rd1 m)) () (defs₀ (F := F)) 𝒱₀ L lv) :=
  [.host (seg0 m 𝒱₀ L lv (fun _ => beside m) c), .region (record0 (Vm m) (rd1 m) (cells1 (F := F))), .host (reshapes (Vm m)), .host (stencil (Vm m))]

abbrev first (c : Dev nD) : sProp (MT nD τ sig Unit (Elt F) ℕ UU ℕ) :=
  iprop(StableHlo.held (c : Thread nD τ) (Pipeline.ucRefs τ sig) (V0 m c) ∗ beside m c)

theorem barrier_counter (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

theorem start (c : Dev nD) (κ : GSem nD τ sig → ℕ) :
    iprop(common (rv (Vm m)) (cv (Vm m)) κ ∗ dealt (F := F) c ∗ cells1 (F := F) c ∗ StableHlo.held (c : Thread nD τ) (Pipeline.ucRefs τ sig) (V0 m c)
      ∗ owes (c : Thread nD τ) (O₀ c) ∅ ∗ toGet c) ⊢ first m c := by
  iintro ⟨#HK, Hd, HE, Hh, HO, Hg⟩
  isplitl [Hh]; · iexact Hh
  isplitl [Hd Hg]
  · iapply (closed_intro (rv (Vm m)) (cv (Vm m)) κ c)
    isplitr; · iexact HK
    isplitl [Hd] <;> iassumption
  isplitl [HO]
  · iexists ∅; iexact HO
  iexact HE

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atFirst (seed (F := F)) c)) ∗ levAts L lv)
      ⊢ (|={Set.univ}=> bigSep Finset.univ (first m) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ atFirst (seed (F := F)) c)
      ⊢ (iprop((StableHlo.held (c : Thread nD τ) (Pipeline.ucRefs τ sig) (V0 m c) ∗ owes (c : Thread nD τ) (O₀ c) ∅ ∗ toGet c)
          ∗ semVal (barCell c) 0 ∗ atFirst (seed (F := F)) c) : sProp 𝕄) := by
    rw [show unscopedBufs c (fun b => m ((c : Thread nD τ).loc b)) = StableHlo.held (c : Thread nD τ) (Pipeline.ucRefs τ sig) (V0 m c) from
      Pipeline.unscopedBufs_held c (V0 m c), barrier_counter]
    iintro ⟨Hh, Hb, HO, Hcr, -, HG⟩
    ihave Hg := (credits (F := F) c) $$ Hcr
    isplitl [Hh HO Hg]
    · isplitl [Hh]; · iexact Hh
      isplitl [HO] <;> iassumption
    isplitl [Hb] <;> iassumption
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atFirst (seed (F := F)) c))
      ⊢ (bigSep Finset.univ fun c : Dev nD => iprop((StableHlo.held (c : Thread nD τ) (Pipeline.ucRefs τ sig) (V0 m c) ∗ owes (c : Thread nD τ) (O₀ c) ∅ ∗ toGet c)
          ∗ semVal (barCell c) 0 ∗ atFirst (seed (F := F)) c) : sProp 𝕄) from bigSep_mono fun c _ => each c) $$ H
  ihave H := Smoke.bigSep_unpair $$ H; icases H with ⟨Hmine, H⟩
  ihave H := Smoke.bigSep_unpair $$ H; icases H with ⟨Hb, HG⟩
  ihave HG := (show bigSep Finset.univ (atFirst (seed (F := F))) ⊢ seed (F := F) from Entails.of_eq (sum_atFirst (seed (F := F)))) $$ HG
  icases HG with ⟨HQ, HR⟩
  imod (fund_second (F := F)) $$ HQ with HE
  imod (fund (rv (Vm m)) (cv (Vm m))) $$ [Hb HR] with ⟨%κ, #HK, Hd⟩
  · isplitl [Hb] <;> iassumption
  imodintro
  iapply (bigSep_with_persistent (R := common (rv (Vm m)) (cv (Vm m)) κ)
    (Φ := fun c => iprop(dealt (F := F) c ∗ cells1 (F := F) c ∗ StableHlo.held (c : Thread nD τ) (Pipeline.ucRefs τ sig) (V0 m c)
      ∗ owes (c : Thread nD τ) (O₀ c) ∅ ∗ toGet c)) fun c _ => start m c κ)
  isplitr; · iexact HK
  iapply Smoke.bigSep_pair
  isplitl [Hd]; · iexact Hd
  iapply Smoke.bigSep_pair
  isplitl [HE] <;> iassumption

/-! ## The end -/

/-- A final memory at device `c`: the rows that arrived, and every buffer as the stencil then leaves it. -/
def Ends (c : Dev nD) (s : MemSt nD τ sig (Elt F)) : Prop :=
  ∃ U D, (upGood c (xv (Vm m) c) (rv (Vm m) (xn c)) U ∧ dnGood c (xv (Vm m) c) (rv (Vm m) (xn c)) D)
    ∧ ∀ r : Ref sig .tc, r.isScoped = false → s.mem ((c : Thread nD τ).loc r) = after1 (mid (Vm m) U D c) c r

theorem finish (c : Dev nD) (s' : Phys nD τ sig (Elt F)) :
    iprop(done (Vm m) c ∗ SI s') ⊢ (|={Set.univ}=> iprop(⌜Ends m c s'.mem ∧ s'.mem.sem (barCell c) = 0⌝ ∗ SI s') : sProp 𝕄) := by
  unfold done StableHlo.held
  iintro ⟨⟨⟨%U, %D, %hg, Hh⟩, Hb⟩, HSI⟩
  icombine HSI Hb gives %hb
  ihave Hr := (pointsTo_read_all (Pipeline.ucRefs τ sig) (fun b => ((c : Thread nD τ).1, b)) (after1 (mid (Vm m) U D c) c) s') $$ [Hh HSI]
  · isplitl [Hh] <;> iassumption
  icases Hr with ⟨%h, HSI⟩
  imodintro
  isplitr
  · ipureintro
    refine ⟨⟨U, D, hg, fun r hr => h (Proc.devRef .tc r) (mem_uc r hr)⟩, ?_⟩
    simpa using hb
  · iexact HSI

theorem only_barrier : ∀ sm : SemLoc sig, sm.isScoped .tc = false → sm = .reg barS := by decide

set_option backward.isDefEq.respectTransparency.types false in
theorem run_main : θ_run defs (onTc (τ := τ) (main (F := F))) ⟨m, fun _ => 0, ρ⟩ (fun r => (∀ c : Dev nD, Ends m c r.2) ∧ r.2.sem = fun _ => 0) :=
  Pipeline.RDat.θ_run_regions_kit_dev_sems (pcfgs (F := F)) adm (rdats (Vm m) (rd1 m)) () cellOf_inj EP defs₀ 𝒱₀ L lv m ρ main (parts m)
    (fun c Q => by
      rewrite [main_chain c, RDat.Seg.run_eq_chain,
        show (parts m c).map RDat.Seg.prog = [
          StableHlo.seq (hostOps0 c),
          Prog.lift (.customCall (Pipeline.entry 0) ()),
          StableHlo.seq hostOps1,
          Prog.lift (.customCall (Pipeline.entry 1) ()) ] from rfl]
      dsimp (config := { failIfUnchanged := false }) only
      exact .rfl)
    (fun c => by
      simp only [parts, RDat.Seg.pipes_host, RDat.Seg.pipes_region, RDat.Seg.pipes_nil]; decide)
    O₀ L_of_ne (atFirst (seed (F := F))) (u₀ (F := F)) deal_seed
    (first m) (done (Vm m))
    (fun c => ⟨.rfl, .rfl, .rfl, .rfl, .rfl⟩)
    (init m ρ) (fun c s => Ends m c s ∧ s.sem (barCell c) = 0) (finish m)
    (fun s h hs => ⟨fun c => (h c).1, sem_eq_zero hs fun c sm hsm => by
      obtain rfl := only_barrier sm hsm
      exact (h c).2⟩)

end Cert.Halo

end
-- ==== Proof.Frames.lean ====
/-
# The frames of the two kernel programs

The run of `Run.lean` read at the argument's buffer: no host line writes it and no region writes it, so it
ends holding what it held at the start; the counters are the run's own second half. The run is over any
float values, and the two kernel programs are one text, so each frame is that run at its own float values.
-/
module

public import proofs.«01_k».proof.Proof.Run
public import proofs.«01_k».proof.Proof.Gen.Kernel
public import proofs.«01_k».proof.Defs

@[expose] public section

noncomputable section

namespace Cert.Halo

open Cert.KernelIdeal Cert.KernelIdeal.Gen
open Idealize.ShloMosaic Idealize.ShloMosaic.TcCoe Idealize.SL.Sem

variable {F : FTy → Type} [FloatOps F] [∀ e, Nonempty (Elt F e)]

/-- What a buffer no segment writes holds at the end is what it held at the start. -/
theorem end_arg (m : (ℓ : Loc nD τ sig) → Buf (Elt F) ℓ) (U D) (c : Dev nD) :
    after1 (mid (Vm m) U D c) c (main_arg0 : DevRef τ sig) = m ((c : Thread nD τ).loc main_arg0) := by
  unfold after1 mid after0
  rw [Function.update_of_ne (by decide), StableHlo.after_of_writes_sub hostOps1 _ hostOps1_writes (by decide),
    Function.update_of_ne (by decide), Function.update_of_ne (by decide), Function.update_of_ne (by decide)]
  exact V1_of m c main_arg0 (by decide)

theorem Ends.arg {m : (ℓ : Loc nD τ sig) → Buf (Elt F) ℓ} {c : Dev nD} {s : MemSt nD τ sig (Elt F)} (h : Ends m c s) :
    s.mem ((c : Thread nD τ).loc main_arg0) = m ((c : Thread nD τ).loc main_arg0) := by
  obtain ⟨U, D, -, h⟩ := h
  exact (h main_arg0 (by decide)).trans (end_arg m U D c)

/-- The program runs, its argument ends unchanged and the counters end at zero. -/
theorem keeps_arg (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun _ h => ⟨fun c => (h.1 c).arg, h.2⟩) (run_main m ρ)

theorem frame_kernelIdeal : Cert.quiescent_KernelIdeal := fun m ρ _ => keeps_arg (F := Ideal) m ρ

/-! ## The two programs are one text -/

theorem same_body0 (x) : Cert.Kernel.defs₀ (F := F) .tc (0 : Fin 2) x = Cert.KernelIdeal.defs₀ (F := F) .tc (0 : Fin 2) x := rfl
theorem same_body1 (x) : Cert.Kernel.defs₀ (F := F) .tc (1 : Fin 2) x = Cert.KernelIdeal.defs₀ (F := F) .tc (1 : Fin 2) x := rfl

set_option maxHeartbeats 2000000 in
theorem same_bodies : Cert.Kernel.defs₀ (F := F) = Cert.KernelIdeal.defs₀ (F := F) := by
  unfold Cert.Kernel.defs₀ Cert.KernelIdeal.defs₀
  refine congrArg (Defs.onTc (nD := nD) (τ := τ) (sig := sig) (Val := Elt F) (Λ := Λ₀)) ?_
  funext l
  match l with
  | ⟨0, _⟩ => exact funext fun x => same_body0 x
  | ⟨1, _⟩ => exact funext fun x => same_body1 x

set_option maxHeartbeats 2000000 in
theorem same_defs : Cert.Kernel.defs (F := F) = Cert.KernelIdeal.defs (F := F) := by
  unfold Cert.Kernel.defs Cert.KernelIdeal.defs
  exact congrArg (Pipeline.defs (pcfgs (F := F))) same_bodies

set_option maxHeartbeats 2000000 in
theorem frame_kernel : Cert.quiescent_Kernel := fun m ρ _ => by
  rw [same_defs]
  exact keeps_arg (F := Bits) m ρ

end Cert.Halo

end
-- ==== Proof.Reference.lean ====
/-
# The run of the reference

The reference is one line of host operations on one device: five windows of the array, scaled and added, and
the sum written over the array's interior. Its run ends with the result buffer at `whole` of the argument,
the argument as it was, and, as it declares no semaphore, every counter at zero. `Spot.lean` reads `whole` at a
row and a column: the sum at an interior place, the argument's own entry on the rim.
-/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Routing.OpsOne
public import Idealize.ShloMosaic.Lib.Pipeline.Value

@[expose] public section

noncomputable section

namespace Cert.Halo.Plain

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-- A factor spread over the interior. -/
def spread (w : BitVec 16) : FVec F S8190x8190 .bf16 := broadcastInDim S8190x8190 ![] bcast_S_S8190x8190 (constant S_ .bf16 w)

/-- The sum that replaces the interior: half the place itself and an eighth of each of its four neighbours. -/
def inner (x : FVec F S8192x8192 .bf16) : FVec F S8190x8190 .bf16 :=
  addf (addf (addf (addf
    (mulf (spread 0x3F00#16) (extractStridedSlice S8190x8190 ![1, 1] x slices_S8192x8192_S8190x8190_1_1))
    (mulf (spread 0x3E00#16) (extractStridedSlice S8190x8190 ![0, 1] x slices_S8192x8192_S8190x8190_0_1)))
    (mulf (spread 0x3E00#16) (extractStridedSlice S8190x8190 ![2, 1] x slices_S8192x8192_S8190x8190_2_1)))
    (mulf (spread 0x3E00#16) (extractStridedSlice S8190x8190 ![1, 0] x slices_S8192x8192_S8190x8190_1_0)))
    (mulf (spread 0x3E00#16) (extractStridedSlice S8190x8190 ![1, 2] x slices_S8192x8192_S8190x8190_1_2))

/-- The interior's first row and first column, as index words. -/
def corner : IVec S2 32 :=
  concatenate S2 0 [⟨S1, broadcastInDim S1 ![] bcast_S_S1 (constantI S_ 32 1#32)⟩,
    ⟨S1, broadcastInDim S1 ![] bcast_S_S1 (constantI S_ 32 1#32)⟩] concatenates_S1_S1_S2_d0

/-- The result: the array with its interior replaced. -/
def whole (x : FVec F S8192x8192 .bf16) : FVec F S8192x8192 .bf16 :=
  Host.scatter scatter_S8192x8192_S2_S8190x8190_01_n_01_0 (fun _ b => b) x corner (inner x)

/-- The operations of the program, in order. -/
abbrev line : List (HloOp τ sig (Elt F)) :=
  [ unary main_arg0 main_v0 (extractStridedSlice S8190x8190 ![1, 1] · slices_S8192x8192_S8190x8190_1_1),
    nullary main_cst (constant S_ .bf16 0x3F00#16),
    unary main_cst main_v1 (broadcastInDim S8190x8190 ![] bcast_S_S8190x8190),
    binary main_v1 main_v0 main_v2 mulf,
    unary main_arg0 main_v3 (extractStridedSlice S8190x8190 ![0, 1] · slices_S8192x8192_S8190x8190_0_1),
    nullary main_cst_0 (constant S_ .bf16 0x3E00#16),
    unary main_cst_0 main_v4 (broadcastInDim S8190x8190 ![] bcast_S_S8190x8190),
    binary main_v4 main_v3 main_v5 mulf,
    binary main_v2 main_v5 main_v6 addf,
    unary main_arg0 main_v7 (extractStridedSlice S8190x8190 ![2, 1] · slices_S8192x8192_S8190x8190_2_1),
    nullary main_cst_1 (constant S_ .bf16 0x3E00#16),
    unary main_cst_1 main_v8 (broadcastInDim S8190x8190 ![] bcast_S_S8190x8190),
    binary main_v8 main_v7 main_v9 mulf,
    binary main_v6 main_v9 main_v10 addf,
    unary main_arg0 main_v11 (extractStridedSlice S8190x8190 ![1, 0] · slices_S8192x8192_S8190x8190_1_0),
    nullary main_cst_2 (constant S_ .bf16 0x3E00#16),
    unary main_cst_2 main_v12 (broadcastInDim S8190x8190 ![] bcast_S_S8190x8190),
    binary main_v12 main_v11 main_v13 mulf,
    binary main_v10 main_v13 main_v14 addf,
    unary main_arg0 main_v15 (extractStridedSlice S8190x8190 ![1, 2] · slices_S8192x8192_S8190x8190_1_2),
    nullary main_cst_3 (constant S_ .bf16 0x3E00#16),
    unary main_cst_3 main_v16 (broadcastInDim S8190x8190 ![] bcast_S_S8190x8190),
    binary main_v16 main_v15 main_v17 mulf,
    binary main_v14 main_v17 main_v18 addf,
    nullary main_c (constantI S_ 32 1#32),
    unary main_c main_v19 (broadcastInDim S1 ![] bcast_S_S1),
    nullary main_c_4 (constantI S_ 32 1#32),
    unary main_c_4 main_v20 (broadcastInDim S1 ![] bcast_S_S1),
    binary main_v19 main_v20 main_v21 (fun a b => concatenate S2 0 [⟨S1, a⟩, ⟨S1, b⟩] concatenates_S1_S1_S2_d0),
    ternary main_arg0 main_v21 main_v18 main_v22
      (fun x i u => Host.scatter scatter_S8192x8192_S2_S8190x8190_01_n_01_0 (fun _ b => b) x i u) ]

theorem main_line (c : Dev nD) : main (F := F) c = seq line := rfl

theorem line_result (V : Valuation τ sig (Elt F)) :
    after line V (main_v22 : DevRef τ sig) = whole (V (main_arg0 : DevRef τ sig)) := by
  after_results
  rfl

theorem line_arg (V : Valuation τ sig (Elt F)) :
    after line V (main_arg0 : DevRef τ sig) = V (main_arg0 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem line_bufs : (line : List (HloOp τ sig (Elt F))).Forall fun op => op.bufs ⊆ tcRefs τ sig :=
  ⟨unary_bufs_sub .., nullary_bufs_sub .., unary_bufs_sub .., binary_bufs_sub ..,
    unary_bufs_sub .., nullary_bufs_sub .., unary_bufs_sub .., binary_bufs_sub .., binary_bufs_sub ..,
    unary_bufs_sub .., nullary_bufs_sub .., unary_bufs_sub .., binary_bufs_sub .., binary_bufs_sub ..,
    unary_bufs_sub .., nullary_bufs_sub .., unary_bufs_sub .., binary_bufs_sub .., binary_bufs_sub ..,
    unary_bufs_sub .., nullary_bufs_sub .., unary_bufs_sub .., binary_bufs_sub .., binary_bufs_sub ..,
    nullary_bufs_sub .., unary_bufs_sub .., nullary_bufs_sub .., unary_bufs_sub .., binary_bufs_sub ..,
    ternary_bufs_sub ..⟩

theorem run_line (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v22) = whole (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v22).trans (line_result _), (h c main_arg0).trans (line_arg _)⟩,
      sem_eq_zero_of_no_sems (by decide) r.2⟩)
    (run_seq no_scoped_refs no_scoped_sems defs main (fun _ => line) main_line (fun _ => line_bufs) m ρ)

theorem frame_reference : Cert.quiescent_ReferenceIdeal := fun m ρ _ =>
  (θ_run Cert.ReferenceIdeal.defs _ _).mono (fun _ h => ⟨fun c => (h.1 c).2, h.2⟩) (run_line (F := Ideal) m ρ)

end Cert.Halo.Plain

end
-- ==== Proof.Places.lean ====
/-
# What a band of the result holds, place by place

A band of the output was stated as five payloads laid one over another. Here each payload is read at a row and a
column, and so is the whole band: the band's own entry on a kept row or column, elsewhere half of it and an eighth of the
sum of its neighbours. Over the extended reals the three ways in which the kernel adds the neighbours are one.
-/
module

public import proofs.«01_k».proof.Proof.Region1
public import Idealize.ShloMosaic.Lib.ValueIdx
public import Idealize.ShloMosaic.Lib.IdealHost
public import Idealize.ShloMosaic.Lib.KernelVsHost
public import Idealize.ShloMosaic.Lib.Pointwise.ShapeOpsCore
public import Idealize.ShloMosaic.Lib.Pipeline.Value

@[expose] public section

noncomputable section

namespace Cert.Halo

open Cert.KernelIdeal Cert.KernelIdeal.Gen
open Idealize.ShloMosaic hiding ix2
open Idealize.ShloMosaic.TcCoe
open Idealize.ShloMosaic.ValueIdx

/-! ## Laying over a rectangle, at one place -/

theorem laid_in {s : Shape} {T : Type} (r : Rect s) (w : r.shape.Idx → T) (X : s.Idx → T) {i : s.Idx} (y : r.shape.Idx)
    (h : ∀ a, (i a).val = r.off a + r.stride a * (y a).val) : laid r w X i = w y := by
  rw [show i = r.emb y from funext fun a => Fin.ext (by rw [h a, Rect.emb_apply])]
  exact laid_emb r w X y

theorem laid_out {s : Shape} {T : Type} {off size : Fin s.rank → Nat} {inb} (w : (Rect.unit (s := s) off size inb).shape.Idx → T) (X : s.Idx → T)
    {i : s.Idx} (a : Fin s.rank) (h : (i a).val < off a ∨ off a + size a ≤ (i a).val) : laid (Rect.unit off size inb) w X i = X i :=
  laid_off _ w X fun hi => by
    have := (Rect.mem_set_unit.mp hi) a
    omega

section Any

variable {F : FTy → Type} [FloatOps F]
variable (x : Band F) (u d : Line F) (w e : Side F) (Z : Band F)

/-! ## The neighbours' rows -/

theorem own_eq : k1_pay1 x = x := shapeCast_self _ _

theorem up_first (b : Fin 4096) : k1_pay2 x u (ix2 0 b) = u (ix2 0 b) := by
  unfold k1_pay2
  simp only [shapeCast_self, own_eq]
  exact concatenate_pair_apply_left (t := S256x4096) (s₁ := S1x4096) (s₂ := S255x4096) 0 _ _ _ _ rfl (ix2 (0 : Fin 1) b) fun a => by fin_cases a <;> rfl

theorem up_next (a a' : Fin 256) (h : a.val = a'.val + 1) (b : Fin 4096) : k1_pay2 x u (ix2 a b) = x (ix2 a' b) := by
  have ha := a.isLt
  unfold k1_pay2
  simp only [shapeCast_self, own_eq]
  refine (concatenate_pair_apply_right (t := S256x4096) (s₁ := S1x4096) (s₂ := S255x4096) 0 _ _ _ _ rfl rfl (ix2 (⟨a'.val, by omega⟩ : Fin 255) b) (fun q hq => ?_) ?_).trans
    (extractStridedSlice_apply (s := S256x4096) (t := S255x4096) _ _ _ _ (ix2 a' b) fun q => ?_)
  · match q, hq with
    | ⟨0, _⟩, hq => exact absurd rfl hq
    | ⟨1, _⟩, _ => rfl
  · exact h.symm
  · match q with
    | ⟨0, _⟩ => exact (Nat.zero_add _).symm
    | ⟨1, _⟩ => exact (Nat.zero_add _).symm

theorem dn_last (b : Fin 4096) : k1_pay3 x d (ix2 255 b) = d (ix2 0 b) := by
  unfold k1_pay3
  simp only [shapeCast_self, own_eq]
  refine concatenate_pair_apply_right (t := S256x4096) (s₁ := S255x4096) (s₂ := S1x4096) 0 _ _ _ _ rfl rfl (ix2 (0 : Fin 1) b) (fun q hq => ?_) rfl
  match q, hq with
  | ⟨0, _⟩, hq => exact absurd rfl hq
  | ⟨1, _⟩, _ => rfl

theorem dn_next (a a' : Fin 256) (h : a'.val = a.val + 1) (b : Fin 4096) : k1_pay3 x d (ix2 a b) = x (ix2 a' b) := by
  have ha := a'.isLt
  unfold k1_pay3
  simp only [shapeCast_self, own_eq]
  refine (concatenate_pair_apply_left (t := S256x4096) (s₁ := S255x4096) (s₂ := S1x4096) 0 _ _ _ _ rfl (ix2 (⟨a.val, by omega⟩ : Fin 255) b) (fun q => ?_)).trans
    (extractStridedSlice_apply (s := S256x4096) (t := S255x4096) _ _ _ _ (ix2 a' b) fun q => ?_)
  · match q with
    | ⟨0, _⟩ => rfl
    | ⟨1, _⟩ => rfl
  · match q with
    | ⟨0, _⟩ => exact h.trans (Nat.add_comm _ _)
    | ⟨1, _⟩ => exact (Nat.zero_add _).symm

/-! ## The neighbours' columns -/

theorem turned_left (a : Fin 256) (b b' : Fin 4096) (h : b.val = b'.val + 1) :
    dynamicRotate 1 1#32 none x rotates_S256x4096_d1 (ix2 a b) = x (ix2 a b') :=
  dynamicRotate_apply _ _ _ _ _ _ fun q => by
    have hb := b.isLt
    match q with
    | ⟨0, _⟩ => rfl
    | ⟨1, _⟩ =>
      show b'.val = (b.val + 4096 - 1 % 4096) % 4096
      omega

theorem turned_right (a : Fin 256) (b b' : Fin 4096) (h : b'.val = b.val + 1) :
    dynamicRotate 1 4095#32 none x rotates_S256x4096_d1 (ix2 a b) = x (ix2 a b') :=
  dynamicRotate_apply _ _ _ _ _ _ fun q => by
    have hb := b'.isLt
    match q with
    | ⟨0, _⟩ => rfl
    | ⟨1, _⟩ =>
      show b'.val = (b.val + 4096 - 4095 % 4096) % 4096
      omega

theorem column (k : Fin 4096) (h : S256x4096.Slices ![0, k.val] S256x1) (a : Fin 256) (X : Band F) :
    extractStridedSlice S256x1 ![0, k.val] X h (ix2 a 0) = X (ix2 a k) :=
  extractStridedSlice_apply _ _ _ _ _ fun q => by
    match q with
    | ⟨0, _⟩ => exact (Nat.zero_add _).symm
    | ⟨1, _⟩ => rfl

/-! ## The kept rows and columns -/

/-- The device at the edge of the square keeps the first row of its first band, or the last of its last. -/
def RowKept (c : Dev nD) (n : Fin 16) (a : Fin 256) : Prop := (¬ low c ∧ n = 0 ∧ a = 0) ∨ (low c ∧ n = Fin.last 15 ∧ a = 255)
/-- The device at the edge of the square keeps its first column, or its last. -/
def ColKept (c : Dev nD) (b : Fin 4096) : Prop := (c.val % 2 = 0 ∧ b = 0) ∨ (¬ c.val % 2 = 0 ∧ b = 4095)

theorem keepFirst_first (b : Fin 4096) : keepFirst x Z (ix2 0 b) = x (ix2 0 b) := by
  unfold keepFirst
  rw [laid_in firstTwo _ _ (ix2 (0 : Fin 2) b) (fun q => by
      match q with
      | ⟨0, _⟩ => rfl
      | ⟨1, _⟩ => show b.val = 0 + 1 * b.val; omega)]
  rw [updateSlice_apply, dif_pos (fun q => by
      match q with
      | ⟨0, _⟩ => exact ⟨Nat.le_refl 0, Nat.zero_lt_one⟩
      | ⟨1, _⟩ => exact ⟨Nat.zero_le _, by show b.val < 0 + 4096; omega⟩)]
  unfold k1_pay14
  rw [own_eq]
  exact extractStridedSlice_apply (s := S256x4096) (t := S1x4096) _ _ _ _ (ix2 (0 : Fin 256) b) fun q => by
    match q with
    | ⟨0, _⟩ => rfl
    | ⟨1, _⟩ => show b.val = 0 + (b.val - 0); omega

theorem keepFirst_else (a : Fin 256) (h : a ≠ 0) (b : Fin 4096) : keepFirst x Z (ix2 a b) = Z (ix2 a b) := by
  have h0 : a.val ≠ 0 := fun q => h (Fin.ext q)
  unfold keepFirst
  by_cases h1 : a.val = 1
  · obtain rfl : a = 1 := Fin.ext h1
    rw [laid_in firstTwo _ _ (ix2 (1 : Fin 2) b) (fun q => by
      match q with
      | ⟨0, _⟩ => rfl
      | ⟨1, _⟩ => show b.val = 0 + 1 * b.val; omega)]
    rw [updateSlice_apply, dif_neg (fun q => absurd (q ⟨0, Nat.zero_lt_two⟩).2 (by show ¬ (1 < 0 + 1); omega))]
    exact congrArg Z (funext fun q => by
      match q with
      | ⟨0, _⟩ => rfl
      | ⟨1, _⟩ => exact Fin.ext (show 0 + 1 * b.val = b.val by omega))
  · exact laid_out _ _ (0 : Fin 2) (Or.inr (by show 0 + 2 ≤ a.val; omega))

theorem keepLast_last (b : Fin 4096) : keepLast x Z (ix2 255 b) = x (ix2 255 b) := by
  unfold keepLast
  rw [laid_in lastTwo _ _ (ix2 (1 : Fin 2) b) (fun q => by
      match q with
      | ⟨0, _⟩ => rfl
      | ⟨1, _⟩ => show b.val = 0 + 1 * b.val; omega)]
  rw [updateSlice_apply, dif_pos (fun q => by
      match q with
      | ⟨0, _⟩ => exact ⟨Nat.le_refl 1, Nat.lt_succ_self 1⟩
      | ⟨1, _⟩ => exact ⟨Nat.zero_le _, by show b.val < 0 + 4096; omega⟩)]
  unfold k1_pay15
  rw [own_eq]
  exact extractStridedSlice_apply (s := S256x4096) (t := S1x4096) _ _ _ _ (ix2 (255 : Fin 256) b) fun q => by
    match q with
    | ⟨0, _⟩ => rfl
    | ⟨1, _⟩ => show b.val = 0 + (b.val - 0); omega

theorem keepLast_else (a : Fin 256) (h : a ≠ 255) (b : Fin 4096) : keepLast x Z (ix2 a b) = Z (ix2 a b) := by
  have ha := a.isLt
  have h0 : a.val ≠ 255 := fun q => h (Fin.ext q)
  unfold keepLast
  by_cases h1 : a.val = 254
  · obtain rfl : a = 254 := Fin.ext h1
    rw [laid_in lastTwo _ _ (ix2 (0 : Fin 2) b) (fun q => by
      match q with
      | ⟨0, _⟩ => rfl
      | ⟨1, _⟩ => show b.val = 0 + 1 * b.val; omega)]
    rw [updateSlice_apply, dif_neg (fun q => absurd (q ⟨0, Nat.zero_lt_two⟩).1 (by show ¬ (1 ≤ 0); omega))]
    exact congrArg Z (funext fun q => by
      match q with
      | ⟨0, _⟩ => rfl
      | ⟨1, _⟩ => exact Fin.ext (show 0 + 1 * b.val = b.val by omega))
  · exact laid_out _ _ (0 : Fin 2) (Or.inl (by show a.val < 254; omega))

theorem keepRow_kept (c : Dev nD) (n : Fin 16) (a : Fin 256) (b : Fin 4096) (h : RowKept c n a) :
    keepRow c n x Z (ix2 a b) = x (ix2 a b) := by
  unfold keepRow
  rcases h with ⟨hl, hn, rfl⟩ | ⟨hl, hn, rfl⟩
  · rw [if_pos ⟨hl, hn⟩, keepFirst_first]
  · rw [if_neg fun q => q.1 hl, if_pos ⟨hl, hn⟩, keepLast_last]

theorem keepRow_else (c : Dev nD) (n : Fin 16) (a : Fin 256) (b : Fin 4096) (h : ¬ RowKept c n a) :
    keepRow c n x Z (ix2 a b) = Z (ix2 a b) := by
  unfold keepRow
  split_ifs with h1 h2
  · exact keepFirst_else x Z a (fun q => h (Or.inl ⟨h1.1, h1.2, q⟩)) b
  · exact keepLast_else x Z a (fun q => h (Or.inr ⟨h2.1, h2.2, q⟩)) b
  · rfl

theorem on_left (W : Side F) (a : Fin 256) : laid leftCol W Z (ix2 a 0) = W (ix2 a 0) :=
  laid_in leftCol W Z (ix2 a (0 : Fin 1)) fun q => by
    match q with
    | ⟨0, _⟩ => show a.val = 0 + 1 * a.val; omega
    | ⟨1, _⟩ => rfl
theorem on_right (W : Side F) (a : Fin 256) : laid rightCol W Z (ix2 a 4095) = W (ix2 a 0) :=
  laid_in rightCol W Z (ix2 a (0 : Fin 1)) fun q => by
    match q with
    | ⟨0, _⟩ => show a.val = 0 + 1 * a.val; omega
    | ⟨1, _⟩ => rfl
theorem off_left (W : Side F) (a : Fin 256) (b : Fin 4096) (h : b ≠ 0) : laid leftCol W Z (ix2 a b) = Z (ix2 a b) :=
  laid_out _ _ (1 : Fin 2) (Or.inr (by
    have : b.val ≠ 0 := fun q => h (Fin.ext q)
    show 0 + 1 ≤ b.val; omega))
theorem off_right (W : Side F) (a : Fin 256) (b : Fin 4096) (h : b ≠ 4095) : laid rightCol W Z (ix2 a b) = Z (ix2 a b) :=
  laid_out _ _ (1 : Fin 2) (Or.inl (by
    have : b.val ≠ 4095 := fun q => h (Fin.ext q)
    have := b.isLt
    show b.val < 4095; omega))

theorem keepCol_kept (c : Dev nD) (a : Fin 256) (b : Fin 4096) (h : ColKept c b) : keepCol c x Z (ix2 a b) = x (ix2 a b) := by
  unfold keepCol
  rcases h with ⟨hc, rfl⟩ | ⟨hc, rfl⟩
  · rw [if_pos hc, on_left]
    unfold k1_pay12
    rw [own_eq]
    exact column (F := F) 0 _ a x
  · rw [if_neg hc, on_right]
    unfold k1_pay13
    rw [own_eq]
    exact column (F := F) 4095 _ a x

theorem keepCol_else (c : Dev nD) (a : Fin 256) (b : Fin 4096) (h : ¬ ColKept c b) : keepCol c x Z (ix2 a b) = Z (ix2 a b) := by
  unfold keepCol
  split_ifs with hc
  · exact off_left _ _ a b fun q => h (Or.inl ⟨hc, q⟩)
  · exact off_right _ _ a b fun q => h (Or.inr ⟨hc, q⟩)

end Any

/-! ## The sums, over the extended reals -/

/-- Half of a place and an eighth of its neighbours' sum. -/
def star (m n s w e : EReal) : EReal := Ideal.ofBits .bf16 0x3F00#16 * m + Ideal.ofBits .bf16 0x3E00#16 * (((n + s) + w) + e)

theorem eighth_eq : Ideal.ofBits .bf16 0x3E00#16 = (((1 : ℝ) / 8 : ℝ) : EReal) := by
  simp [Ideal.ofBits, Ideal.ieee, -EReal.coe_mul]; norm_num

/-- The eighth of the sum is the sum of the eighths, whatever is infinite. -/
theorem star_spread (m n s w e : EReal) :
    star m n s w e = (((Ideal.ofBits .bf16 0x3F00#16 * m + Ideal.ofBits .bf16 0x3E00#16 * n) + Ideal.ofBits .bf16 0x3E00#16 * s)
      + Ideal.ofBits .bf16 0x3E00#16 * w) + Ideal.ofBits .bf16 0x3E00#16 * e := by
  have h0 : (0 : EReal) ≤ Ideal.ofBits .bf16 0x3E00#16 := by rw [eighth_eq]; exact EReal.coe_nonneg.mpr (by norm_num)
  have ht : Ideal.ofBits .bf16 0x3E00#16 ≠ (⊤ : EReal) := by rw [eighth_eq]; exact EReal.coe_ne_top _
  unfold star
  rw [EReal.left_distrib_of_nonneg_of_ne_top h0 ht, EReal.left_distrib_of_nonneg_of_ne_top h0 ht,
    EReal.left_distrib_of_nonneg_of_ne_top h0 ht]
  simp only [add_assoc]

section Reals

variable (x : Band Ideal) (u d : Line Ideal) (w e : Side Ideal) (Z : Band Ideal)

theorem mid_at (a : Fin 256) (b b1 b2 : Fin 4096) (h1 : b.val = b1.val + 1) (h2 : b2.val = b.val + 1) :
    k1_pay4 x u d (ix2 a b) = star (x (ix2 a b)) (k1_pay2 x u (ix2 a b)) (k1_pay3 x d (ix2 a b)) (x (ix2 a b1)) (x (ix2 a b2)) := by
  unfold k1_pay4 star
  simp only [own_eq, addf_apply, mulf_apply, turned_left x a b b1 h1, turned_right x a b b2 h2, ← add_assoc]
  rfl

theorem left_at (a : Fin 256) :
    k1_pay10 (k1_pay1 x) (k1_pay5 w) (k1_pay7 x) (k1_pay8 x u) (k1_pay9 x d) (ix2 a 0)
      = star (x (ix2 a 0)) (k1_pay2 x u (ix2 a 0)) (k1_pay3 x d (ix2 a 0)) (w (ix2 a 0)) (x (ix2 a 1)) := by
  unfold k1_pay10 k1_pay5 k1_pay7 k1_pay8 k1_pay9 star
  simp only [own_eq, shapeCast_self, addf_apply, mulf_apply]
  have h0 := column (F := Ideal) 0 slices_S256x4096_o0_0_S256x1 a
  have h1 := column (F := Ideal) 1 slices_S256x4096_o0_1_S256x1 a
  erw [h0 x, h0 (k1_pay2 x u), h0 (k1_pay3 x d), h1 x]
  rfl

theorem right_at (a : Fin 256) :
    k1_pay11 (k1_pay1 x) (k1_pay2 x u) (k1_pay3 x d) (k1_pay6 e) (ix2 a 0)
      = star (x (ix2 a 4095)) (k1_pay2 x u (ix2 a 4095)) (k1_pay3 x d (ix2 a 4095)) (x (ix2 a 4094)) (e (ix2 a 0)) := by
  unfold k1_pay11 k1_pay6 star
  simp only [own_eq, shapeCast_self, addf_apply, mulf_apply]
  have h0 := column (F := Ideal) 4095 slices_S256x4096_o0_4095_S256x1 a
  have h1 := column (F := Ideal) 4094 slices_S256x4096_o0_4094_S256x1 a
  erw [h0 x, h0 (k1_pay2 x u), h0 (k1_pay3 x d), h1 x]
  rfl

/-- A place that is on no kept row or column: the five-point sum, with the neighbours' column beside the first and the last. -/
theorem sides_at (a : Fin 256) (b : Fin 4096) (W E : EReal)
    (hW0 : b = 0 → W = w (ix2 a 0)) (hW : ∀ b' : Fin 4096, b.val = b'.val + 1 → W = x (ix2 a b'))
    (hE0 : b = 4095 → E = e (ix2 a 0)) (hE : ∀ b' : Fin 4096, b'.val = b.val + 1 → E = x (ix2 a b')) :
    sides x u d w e (k1_pay4 x u d) (ix2 a b) = star (x (ix2 a b)) (k1_pay2 x u (ix2 a b)) (k1_pay3 x d (ix2 a b)) W E := by
  unfold sides
  have hb := b.isLt
  by_cases h2 : b = 4095
  · subst h2
    rw [hE0 rfl, hW 4094 rfl]
    refine (on_right (F := Ideal) _ _ a).trans ?_
    exact right_at x u d e a
  · refine (off_right (F := Ideal) _ _ a b h2).trans ?_
    by_cases h1 : b = 0
    · subst h1
      rw [hW0 rfl, hE 1 rfl]
      refine (on_left (F := Ideal) _ _ a).trans ?_
      exact left_at x u d w a
    · have n1 : b.val ≠ 0 := fun q => h1 (Fin.ext q)
      have n2 : b.val ≠ 4095 := fun q => h2 (Fin.ext q)
      rw [hW ⟨b.val - 1, by omega⟩ (by show b.val = b.val - 1 + 1; omega), hE ⟨b.val + 1, by omega⟩ rfl]
      refine (off_left (F := Ideal) _ _ a b h1).trans ?_
      exact mid_at x u d a b ⟨b.val - 1, by omega⟩ ⟨b.val + 1, by omega⟩ (by show b.val = b.val - 1 + 1; omega) rfl

end Reals

end Cert.Halo

end
-- ==== Proof.Edges.lean ====
/-
# What the host lines hand to the two regions

Each device's block is read as three buffers before the first region: itself in one row a plane, the row it
sends to its vertical neighbour, the column it sends to its horizontal neighbour. After that region the
buffers it filled are read flat again. Every entry named here is an entry of a block at the start.
-/
module

public import proofs.«01_k».proof.Proof.Run
public import proofs.«01_k».proof.Proof.Places
public import Idealize.ShloMosaic.Lib.DynamicIndex
public import Idealize.ShloMosaic.Lib.StableHlo.RunClose

@[expose] public section

noncomputable section

namespace Cert.Halo

open Cert.KernelIdeal Cert.KernelIdeal.Gen
open Idealize.ShloMosaic hiding ix2 ix3
open Idealize.ShloMosaic.ValueIdx Idealize.ShloMosaic.TcCoe Idealize.SL.Sem

variable {F : FTy → Type} [FloatOps F] [∀ e, Nonempty (Elt F e)]

/-- The row a device sends up or down: its first if the device is low, its last if it is high. -/
def sentRow (c : Dev nD) : Fin 4096 := if low c then 0 else 4095
/-- The column a device sends sideways: its first if the device is on the right, its last if on the left. -/
def sentCol (c : Dev nD) : Fin 4096 := if c.val % 2 = 1 then 0 else 4095

theorem row_fits (c : Dev nD) : S4096x4096.Slices ![(sentRow c).val, 0] S1x4096 :=
  ⟨rfl, fun a => by have := (sentRow c).isLt; fin_cases a <;> (show _ + _ ≤ _) <;> simp <;> omega⟩
theorem col_fits (c : Dev nD) : S4096x4096.Slices ![0, (sentCol c).val] S4096x1 :=
  ⟨rfl, fun a => by have := (sentCol c).isLt; fin_cases a <;> (show _ + _ ≤ _) <;> simp <;> omega⟩

/-- The word a device computes from one binary digit of its number: where the slice that it sends begins. -/
def startWord (q : BitVec 32) (c : Dev nD) : BitVec 32 :=
  let v := IntOp.muli (IntOp.subi 1#32 (IntOp.remui .host (IntOp.divui .host (Dev.word c) q) 2#32)) 4095#32
  Scalar.select (IntOp.cmpi .slt v 0#32) (IntOp.addi v 4096#32) v

theorem start_row (c : Dev nD) : (startWord 2#32 c).toInt = ((sentRow c).val : Int) := by
  revert c; decide +kernel
theorem start_col (c : Dev nD) : (startWord 1#32 c).toInt = ((sentCol c).val : Int) := by
  revert c; decide +kernel

variable (m : (ℓ : Loc nD τ sig) → Buf (Elt F) ℓ)

/-- Device `c`'s block at the start. -/
abbrev own (c : Dev nD) : (⟨S4096x4096, .bf16⟩ : BufTy).Contents (Elt F) := m ((c : Thread nD τ).loc main_arg0)

theorem xv_at (c : Dev nD) (r b : Fin 4096) : xv (V1 m) c (ix3 r 0 b) = own m c (ix2 r b) := by
  have h : xv (V1 m) c = shapeCast S4096x1x4096 (own m c) shapeCasts_S4096x4096_S4096x1x4096 := by
    unfold xv
    after_results
    rfl
  rw [h]
  refine shapeCast_apply (s := S4096x4096) (t := S4096x1x4096) _ _ _ (ix2 r b) ?_
  rw [Shape.rowMajor_val_two, Shape.rowMajor_val_three]
  show r.val * 4096 + b.val = (r.val * 1 + 0) * 4096 + b.val
  omega

theorem rv_at (c : Dev nD) (b : Fin 4096) : rv (V1 m) c (ix3 0 0 b) = own m c (ix2 (sentRow c) b) := by
  have h : rv (V1 m) c = shapeCast S1x1x4096 (extractStridedSlice S1x4096 ![(sentRow c).val, 0] (own m c) (row_fits c))
      shapeCasts_S1x4096_S1x1x4096 := by
    unfold rv
    after_results_simp_entrywise
    refine congrArg (fun z => shapeCast S1x1x4096 z shapeCasts_S1x4096_S1x1x4096) ?_
    refine Host.dynamicSlice_eq_extractStridedSlice _ _ _ _ _ _ ?_
    intro a
    match a with
    | ⟨0, _⟩ => exact start_row c
    | ⟨1, _⟩ => rfl
  rw [h]
  refine (shapeCast_apply (s := S1x4096) (t := S1x1x4096) _ _ _ (ix2 0 b) ?_).trans ?_
  · rw [Shape.rowMajor_val_two, Shape.rowMajor_val_three]
    show 0 * 4096 + b.val = (0 * 1 + 0) * 4096 + b.val
    omega
  · refine extractStridedSlice_apply (s := S4096x4096) (t := S1x4096) _ _ _ _ (ix2 (sentRow c) b) fun a => ?_
    fin_cases a
    · show (sentRow c).val = (sentRow c).val + 0; omega
    · show b.val = 0 + b.val; omega

theorem cv_at (c : Dev nD) (r : Fin 4096) :
    (shapeCast S4096x1 (cv (V1 m) c) shapeCasts_S32x128_S4096x1) (ix2 r 0) = own m c (ix2 r (sentCol c)) := by
  have h : cv (V1 m) c = shapeCast S32x128 (extractStridedSlice S4096x1 ![0, (sentCol c).val] (own m c) (col_fits c))
      shapeCasts_S4096x1_S32x128 := by
    unfold cv
    after_results_simp_entrywise
    refine congrArg (fun z => shapeCast S32x128 z shapeCasts_S4096x1_S32x128) ?_
    refine Host.dynamicSlice_eq_extractStridedSlice _ _ _ _ _ _ ?_
    intro a
    match a with
    | ⟨0, _⟩ => rfl
    | ⟨1, _⟩ => exact start_col c
  rw [h, shapeCast_shapeCast]
  refine extractStridedSlice_apply (s := S4096x4096) (t := S4096x1) _ _ _ _ (ix2 r (sentCol c)) fun a => ?_
  fin_cases a
  · show r.val = 0 + r.val; omega
  · show (sentCol c).val = (sentCol c).val + 0; omega

/-! ## The rows received, at one place -/

theorem row16_at (t : Fin 16) (b : Fin 4096) : (row16 t).emb (ix3 0 0 b) = ix3 t 0 b := by
  funext a
  refine Fin.ext ((Rect.emb_apply _ _ _).trans ?_)
  match a with
  | ⟨0, _⟩ => show t.val + 1 * 0 = t.val; omega
  | ⟨1, _⟩ => rfl
  | ⟨2, _⟩ => show 0 + 1 * b.val = b.val; omega

theorem row4096_at (t : Fin 4096) (b : Fin 4096) : (row4096 t).emb (ix3 0 0 b) = ix3 t 0 b := by
  funext a
  refine Fin.ext ((Rect.emb_apply _ _ _).trans ?_)
  match a with
  | ⟨0, _⟩ => show t.val + 1 * 0 = t.val; omega
  | ⟨1, _⟩ => rfl
  | ⟨2, _⟩ => show 0 + 1 * b.val = b.val; omega

theorem rowAt_at (c : Dev nD) (r b : Fin 4096) : rowAt (xv (V1 m) c) r (ix3 0 0 b) = own m c (ix2 r b) := by
  unfold rowAt
  rw [row4096_at]
  exact xv_at m c r b

variable {m} {c : Dev nD} {U D : S16x1x4096.Idx → Elt F .bf16}

/-- The row above a band other than the first is the block's own. -/
theorem up_own (hU : upGood c (xv (Vm m) c) (rv (Vm m) (xn c)) U) (t : Fin 16) (r b : Fin 4096) (h : r.val + 1 = 256 * t.val) :
    U (ix3 t 0 b) = own m c (ix2 r b) := by
  have ht := t.isLt
  have h1 := (hU t).1 ⟨t.val - 1, by omega⟩ (Fin.ext (by show t.val = t.val - 1 + 1; omega))
  have h2 := congrFun h1 (ix3 0 0 b)
  rw [row16_at] at h2
  refine h2.trans ?_
  unfold above
  rw [show (⟨256 * (t.val - 1) + 255, by omega⟩ : Fin 4096) = r from Fin.ext (by show 256 * (t.val - 1) + 255 = r.val; omega)]
  exact rowAt_at m c r b

/-- The row above a low device's first band is the one received. -/
theorem up_got (hU : upGood c (xv (Vm m) c) (rv (Vm m) (xn c)) U) (hl : low c) (b : Fin 4096) :
    U (ix3 0 0 b) = own m (xn c) (ix2 4095 b) := by
  have h2 := congrFun ((hU 0).2 rfl hl) (ix3 0 0 b)
  rw [row16_at] at h2
  refine h2.trans ((rv_at m (xn c) b).trans ?_)
  rw [show sentRow (xn c) = 4095 from if_neg (by have := c.isLt; unfold low at *; show ¬ (c.val + 2) % 4 / 2 = 1; omega)]

/-- The row below a band other than the last is the block's own. -/
theorem dn_own (hD : dnGood c (xv (Vm m) c) (rv (Vm m) (xn c)) D) (t : Fin 16) (r b : Fin 4096) (h : r.val = 256 * t.val + 256) :
    D (ix3 t 0 b) = own m c (ix2 r b) := by
  have hr := r.isLt
  have h1 := (hD t).1 ⟨t.val, by omega⟩ (Fin.ext rfl)
  have h2 := congrFun h1 (ix3 0 0 b)
  rw [row16_at] at h2
  refine h2.trans ?_
  unfold below
  rw [show (⟨256 * t.val + 256, by omega⟩ : Fin 4096) = r from Fin.ext h.symm]
  exact rowAt_at m c r b

/-- The row below a high device's last band is the one received. -/
theorem dn_got (hD : dnGood c (xv (Vm m) c) (rv (Vm m) (xn c)) D) (hl : ¬ low c) (b : Fin 4096) :
    D (ix3 (Fin.last 15) 0 b) = own m (xn c) (ix2 0 b) := by
  have h2 := congrFun ((hD (Fin.last 15)).2 rfl hl) (ix3 0 0 b)
  rw [row16_at] at h2
  refine h2.trans ((rv_at m (xn c) b).trans ?_)
  rw [show sentRow (xn c) = 0 from if_pos (by have : c.val < 4 := c.isLt; unfold low at *; show (c.val + 2) % 4 / 2 = 1; omega)]

/-! ## What the second region finds -/

variable (m U D) (c : Dev nD)

theorem mid_arg : mid (Vm m) U D c (main_arg0 : DevRef τ sig) = own m c := by
  unfold mid after0
  rw [StableHlo.after_of_writes_sub hostOps1 _ hostOps1_writes (by decide),
    Function.update_of_ne (by decide), Function.update_of_ne (by decide), Function.update_of_ne (by decide)]
  exact V1_of m c main_arg0 (by decide)

theorem mid_up (t : Fin 16) (b : Fin 4096) : u1 (mid (Vm m) U D c) (ix2 t b) = U (ix3 t 0 b) := by
  have h : u1 (mid (Vm m) U D c) = shapeCast S16x4096 U shapeCasts_S16x1x4096_S16x4096 := by
    unfold u1 mid after0
    after_results
    rfl
  rw [h]
  refine shapeCast_apply (s := S16x1x4096) (t := S16x4096) _ _ _ (ix3 t 0 b) ?_
  rw [Shape.rowMajor_val_two, Shape.rowMajor_val_three]
  show (t.val * 1 + 0) * 4096 + b.val = t.val * 4096 + b.val
  omega

theorem mid_dn (t : Fin 16) (b : Fin 4096) : d1 (mid (Vm m) U D c) (ix2 t b) = D (ix3 t 0 b) := by
  have h : d1 (mid (Vm m) U D c) = shapeCast S16x4096 D shapeCasts_S16x1x4096_S16x4096 := by
    unfold d1 mid after0
    after_results
    rfl
  rw [h]
  refine shapeCast_apply (s := S16x1x4096) (t := S16x4096) _ _ _ (ix3 t 0 b) ?_
  rw [Shape.rowMajor_val_two, Shape.rowMajor_val_three]
  show (t.val * 1 + 0) * 4096 + b.val = t.val * 4096 + b.val
  omega

theorem mid_col (r : Fin 4096) : (mid (Vm m) U D c (main_v25 : DevRef τ sig) : S4096x1.Idx → Elt F .bf16) (ix2 r 0)
    = own m (yn c) (ix2 r (sentCol (yn c))) := by
  have h : (mid (Vm m) U D c (main_v25 : DevRef τ sig) : S4096x1.Idx → Elt F .bf16)
      = shapeCast S4096x1 (cv (V1 m) (yn c)) shapeCasts_S32x128_S4096x1 := by
    unfold mid after0
    after_results
    rfl
  rw [h]
  exact cv_at m (yn c) r

/-! ## The blocks the second region reads -/

theorem band_lt (t : Fin cfg1.N) : (grid1.coords t 0).val < 16 := (grid1.coords t 0).isLt

/-- Row `a` of the band at a grid point, in the block. -/
def rowNo (t : Fin cfg1.N) (a : Fin 256) : Fin 4096 :=
  ⟨256 * (grid1.coords t 0).val + a.val, by have := a.isLt; have := band_lt t; omega⟩

theorem word_of_band (i : grid1.Coords) : (BitVec.ofNat 32 (i 0).val).toNat = (i 0).val := by
  have : (i 0).val < 16 := (i 0).isLt
  rw [BitVec.toNat_ofNat]
  exact Nat.mod_eq_of_lt (by omega)

theorem x1_at (W : Valuation τ sig (Elt F)) (t : Fin cfg1.N) (a : Fin 256) (b : Fin 4096) :
    x1 W t (ix2 a b) = W (main_arg0 : DevRef τ sig) (ix2 (rowNo t a) b) := by
  show W (main_arg0 : DevRef τ sig) (((cfg1.win 0).rect t).emb (ix2 a b)) = _
  refine congrArg (W (main_arg0 : DevRef τ sig)) (funext fun q => Fin.ext ?_)
  rw [Pipeline.Window.rect_emb_val (cfg1.win 0) t]
  match q with
  | ⟨0, _⟩ =>
    show (BitVec.ofNat 32 (grid1.coords t 0).val).toNat * 256 + a.val = 256 * (grid1.coords t 0).val + a.val
    rw [word_of_band]; omega
  | ⟨1, _⟩ => show 0 * 4096 + b.val = b.val; omega

theorem w1_at (W : Valuation τ sig (Elt F)) (t : Fin cfg1.N) (a : Fin 256) :
    w1 W t (ix2 a 0) = W (main_v25 : DevRef τ sig) (ix2 (rowNo t a) 0) := by
  show W (main_v25 : DevRef τ sig) (((cfg1.win 3).rect t).emb (ix2 a 0)) = _
  refine congrArg (W (main_v25 : DevRef τ sig)) (funext fun q => Fin.ext ?_)
  rw [Pipeline.Window.rect_emb_val (cfg1.win 3) t]
  match q with
  | ⟨0, _⟩ =>
    show (BitVec.ofNat 32 (grid1.coords t 0).val).toNat * 256 + a.val = 256 * (grid1.coords t 0).val + a.val
    rw [word_of_band]; omega
  | ⟨1, _⟩ => rfl

theorem e1_at (W : Valuation τ sig (Elt F)) (t : Fin cfg1.N) (a : Fin 256) :
    e1 W t (ix2 a 0) = W (main_v25 : DevRef τ sig) (ix2 (rowNo t a) 0) := by
  show W (main_v25 : DevRef τ sig) (((cfg1.win 4).rect t).emb (ix2 a 0)) = _
  refine congrArg (W (main_v25 : DevRef τ sig)) (funext fun q => Fin.ext ?_)
  rw [Pipeline.Window.rect_emb_val (cfg1.win 4) t]
  match q with
  | ⟨0, _⟩ =>
    show (BitVec.ofNat 32 (grid1.coords t 0).val).toNat * 256 + a.val = 256 * (grid1.coords t 0).val + a.val
    rw [word_of_band]; omega
  | ⟨1, _⟩ => rfl

theorem lineOf_at (i : grid1.Coords) (Y : S16x4096.Idx → Elt F .bf16) (b : Fin 4096) : lineOf i Y (ix2 0 b) = Y (ix2 (bandNo i) b) := by
  unfold lineOf
  refine congrArg Y (funext fun q => Fin.ext ((Rect.emb_apply _ _ _).trans ?_))
  match q with
  | ⟨0, _⟩ =>
    show (BitVec.ofNat 32 (i 0).val).toNat + 1 * 0 = (i 0).val
    rw [word_of_band]; omega
  | ⟨1, _⟩ => show 0 + 1 * b.val = b.val; omega

/-- The block that the second region writes at a grid point, in the block. -/
theorem out_at (t : Fin cfg1.N) (y : S256x4096.Idx) : ((cfg1.win 5).rect t).emb y = ix2 (rowNo t (y 0)) (y 1) := by
  refine funext fun q => Fin.ext ?_
  rw [Pipeline.Window.rect_emb_val (cfg1.win 5) t]
  match q with
  | ⟨0, _⟩ =>
    show (BitVec.ofNat 32 (grid1.coords t 0).val).toNat * 256 + (y 0).val = 256 * (grid1.coords t 0).val + (y 0).val
    rw [word_of_band]; omega
  | ⟨1, _⟩ => show 0 * 4096 + (y 1).val = (y 1).val; omega

end Cert.Halo

end
-- ==== Proof.Spot.lean ====
/-
# The reference at one place

`whole` read at a row and a column: at an interior place half its own entry and an eighth of its four
neighbours', on the rim the argument's own entry.
-/
module

public import proofs.«01_k».proof.Proof.Reference
public import proofs.«01_k».proof.Proof.Places

@[expose] public section

noncomputable section

namespace Cert.Halo.Plain

open Cert.ReferenceIdeal Cert.ReferenceIdeal.Gen
open Idealize.ShloMosaic hiding ix1 ix2 ix3 eq_ix2
open Idealize.ShloMosaic.ValueIdx Idealize.ShloMosaic.Routing

theorem corner_at (q : Fin 2) : (corner (ix1 q)).toInt = 1 := by
  unfold corner
  match q with
  | ⟨0, _⟩ =>
    exact (congrArg BitVec.toInt (concatenate_pair_apply_left (t := S2) (s₁ := S1) (s₂ := S1) 0 _ _ _ _ rfl (ix1 (0 : Fin 1))
      fun a => by match a with | ⟨0, _⟩ => rfl)).trans rfl
  | ⟨1, _⟩ =>
    exact (congrArg BitVec.toInt (concatenate_pair_apply_right (t := S2) (s₁ := S1) (s₂ := S1) 0 _ _ _ _ rfl rfl (ix1 (0 : Fin 1))
      (fun a ha => by match a, ha with | ⟨0, _⟩, ha => exact absurd rfl ha) rfl)).trans rfl

theorem window_row (p q : Fin 8190) : scatter_S8192x8192_S2_S8190x8190_01_n_01_0.window (ix2 p q) 0 = p.val := by
  have hk : scatter_S8192x8192_S2_S8190x8190_01_n_01_0.sKept = [0, 1] := rfl
  unfold ScatterDims.window
  rw [dif_pos (by rw [hk]; simp)]
  rfl
theorem window_col (p q : Fin 8190) : scatter_S8192x8192_S2_S8190x8190_01_n_01_0.window (ix2 p q) 1 = q.val := by
  have hk : scatter_S8192x8192_S2_S8190x8190_01_n_01_0.sKept = [0, 1] := rfl
  unfold ScatterDims.window
  rw [dif_pos (by rw [hk]; simp)]
  rfl

/-- Where an entry of the sum lands: one row and one column further. -/
theorem lands (p q : Fin 8190) (r k : Fin 8192) :
    scatter_S8192x8192_S2_S8190x8190_01_n_01_0.resultIdx? (ix2 p q) corner = some (ix2 r k) ↔ r.val = p.val + 1 ∧ k.val = q.val + 1 := by
  rw [resultIdx?_ix2, start_pair _ rfl rfl, start_pair _ rfl rfl, corner_at, corner_at, window_row, window_col]
  omega

variable {F : FTy → Type} [FloatOps F] (x : FVec F S8192x8192 .bf16)

theorem whole_in (p q : Fin 8190) (r k : Fin 8192) (hr : r.val = p.val + 1) (hk : k.val = q.val + 1) :
    whole x (ix2 r k) = inner x (ix2 p q) := by
  unfold whole
  refine scatter_set_hit _ x corner (inner x) _ _ (fun j hj => ?_) (ix2 p q) ((lands p q r k).mpr ⟨hr, hk⟩)
  obtain ⟨p', q', rfl⟩ : ∃ (p' q' : Fin 8190), j = ix2 p' q' := ⟨j 0, j 1, eq_ix2 j⟩
  obtain ⟨h1, h2⟩ := (lands p' q' r k).mp hj
  rw [show p' = p from Fin.ext (by omega), show q' = q from Fin.ext (by omega)]

theorem whole_rim (r k : Fin 8192) (h : r.val = 0 ∨ r.val = 8191 ∨ k.val = 0 ∨ k.val = 8191) : whole x (ix2 r k) = x (ix2 r k) := by
  unfold whole
  refine scatter_set_miss _ x corner (inner x) _ fun j hj => ?_
  obtain ⟨p, q, rfl⟩ : ∃ (p q : Fin 8190), j = ix2 p q := ⟨j 0, j 1, eq_ix2 j⟩
  obtain ⟨h1, h2⟩ := (lands p q r k).mp hj
  have := p.isLt
  have := q.isLt
  omega

theorem moved (off : Fin 2 → Nat) (h : S8192x8192.Slices off S8190x8190) (p q : Fin 8190) (r k : Fin 8192)
    (hr : r.val = off 0 + p.val) (hk : k.val = off 1 + q.val) : extractStridedSlice S8190x8190 off x h (ix2 p q) = x (ix2 r k) :=
  extractStridedSlice_apply (s := S8192x8192) (t := S8190x8190) off x h (ix2 p q) (ix2 r k) fun a => by
    match a with
    | ⟨0, _⟩ => exact hr
    | ⟨1, _⟩ => exact hk

/-- The result at an interior place, whose neighbours are named. -/
theorem whole_at (x : FVec Ideal S8192x8192 .bf16) (r k r1 r2 k1 k2 : Fin 8192) (h1 : r.val = r1.val + 1) (h2 : r2.val = r.val + 1)
    (h3 : k.val = k1.val + 1) (h4 : k2.val = k.val + 1) :
    whole x (ix2 r k) = star (x (ix2 r k)) (x (ix2 r1 k)) (x (ix2 r2 k)) (x (ix2 r k1)) (x (ix2 r k2)) := by
  have := r2.isLt
  have := k2.isLt
  refine (whole_in x ⟨r1.val, by omega⟩ ⟨k1.val, by omega⟩ r k h1 h3).trans ?_
  unfold inner spread
  simp only [addf_apply, mulf_apply]
  rw [moved x _ _ _ _ r k (by show r.val = 1 + r1.val; omega) (by show k.val = 1 + k1.val; omega),
    moved x _ _ _ _ r1 k (by show r1.val = 0 + r1.val; omega) (by show k.val = 1 + k1.val; omega),
    moved x _ _ _ _ r2 k (by show r2.val = 2 + r1.val; omega) (by show k.val = 1 + k1.val; omega),
    moved x _ _ _ _ r k1 (by show r.val = 1 + r1.val; omega) (by show k1.val = 0 + k1.val; omega),
    moved x _ _ _ _ r k2 (by show r.val = 1 + r1.val; omega) (by show k2.val = 2 + k1.val; omega),
    star_spread]
  rfl

end Cert.Halo.Plain

end
-- ==== Proof.Meet.lean ====
/-
# Kernel and reference, place by place

Where the four blocks are the quarters of one array, the band that the second region writes at a grid point
is the reference's result at the same places of that array.
-/
module

public import proofs.«01_k».proof.Proof.Edges
public import proofs.«01_k».proof.Proof.Spot

@[expose] public section

noncomputable section

namespace Cert.Halo

open Cert.KernelIdeal Cert.KernelIdeal.Gen
open Idealize.ShloMosaic hiding ix2 ix3
open Idealize.ShloMosaic.ValueIdx Idealize.ShloMosaic.TcCoe Idealize.SL.Sem

/-- Where a row and a column of device `c`'s block lie in the array. -/
def farRow (c : Dev nD) (r : Fin 4096) : Fin 8192 :=
  ⟨4096 * (c.val / 2) + r.val, by have : c.val < 4 := c.isLt; have := r.isLt; omega⟩
def farCol (c : Dev nD) (b : Fin 4096) : Fin 8192 :=
  ⟨4096 * (c.val % 2) + b.val, by have := b.isLt; omega⟩

variable (m : (ℓ : Loc nD τ sig) → Buf (Elt Ideal) ℓ) (G : FVec Ideal Cert.ReferenceIdeal.S8192x8192 .bf16)

/-- The blocks are the array's quarters. -/
def Quartered : Prop := ∀ (c : Dev nD) (r b : Fin 4096), own m c (ix2 r b) = G (ix2 (farRow c r) (farCol c b))

theorem rowKept_iff (c : Dev nD) (t : Fin cfg1.N) (a : Fin 256) :
    RowKept c (bandNo (grid1.coords t)) a ↔ (farRow c (rowNo t a)).val = 0 ∨ (farRow c (rowNo t a)).val = 8191 := by
  have h1 : c.val < 4 := c.isLt
  have h2 := a.isLt
  have h3 := band_lt t
  unfold RowKept
  rw [Fin.ext_iff, Fin.ext_iff, Fin.ext_iff, Fin.ext_iff]
  show (¬ c.val / 2 = 1 ∧ (grid1.coords t 0).val = 0 ∧ a.val = 0) ∨ (c.val / 2 = 1 ∧ (grid1.coords t 0).val = 15 ∧ a.val = 255)
    ↔ 4096 * (c.val / 2) + (256 * (grid1.coords t 0).val + a.val) = 0 ∨ 4096 * (c.val / 2) + (256 * (grid1.coords t 0).val + a.val) = 8191
  omega

theorem colKept_iff (c : Dev nD) (b : Fin 4096) :
    ColKept c b ↔ (farCol c b).val = 0 ∨ (farCol c b).val = 8191 := by
  have h2 := b.isLt
  unfold ColKept
  rw [Fin.ext_iff, Fin.ext_iff]
  show (c.val % 2 = 0 ∧ b.val = 0) ∨ (¬ c.val % 2 = 0 ∧ b.val = 4095) ↔ 4096 * (c.val % 2) + b.val = 0 ∨ 4096 * (c.val % 2) + b.val = 8191
  omega

variable {m G} {U D : S16x1x4096.Idx → Elt Ideal .bf16} {c : Dev nD}

/-- A place of the array, named by its coordinates. -/
theorem spot (r r' k k' : Fin 8192) (h : r.val = r'.val) (h' : k.val = k'.val) : G (ix2 r k) = G (ix2 r' k') := by
  rw [Fin.ext h, Fin.ext h']

/-- The row above, at a place not in the array's first row. -/
theorem north (hq : Quartered m G) (hU : upGood c (xv (Vm m) c) (rv (Vm m) (xn c)) U) (t : Fin cfg1.N) (a : Fin 256) (b : Fin 4096)
    (g : Fin 8192) (hg : (farRow c (rowNo t a)).val = g.val + 1) :
    k1_pay2 (x1 (mid (Vm m) U D c) t) (lineOf (grid1.coords t) (u1 (mid (Vm m) U D c))) (ix2 a b) = G (ix2 g (farCol c b)) := by
  have h1 : c.val < 4 := c.isLt
  have h2 := a.isLt
  have h3 := band_lt t
  have hg' : 4096 * (c.val / 2) + (256 * (grid1.coords t 0).val + a.val) = g.val + 1 := hg
  by_cases ha : a.val = 0
  · obtain rfl : a = 0 := Fin.ext ha
    rw [up_first, lineOf_at, mid_up]
    by_cases ht : (grid1.coords t 0).val = 0
    · have hl : c.val / 2 = 1 := by omega
      rw [show bandNo (grid1.coords t) = 0 from Fin.ext ht, up_got hU hl, hq]
      refine spot _ _ _ _ ?_ ?_
      · show 4096 * ((c.val + 2) % 4 / 2) + 4095 = g.val; omega
      · show 4096 * ((c.val + 2) % 4 % 2) + b.val = 4096 * (c.val % 2) + b.val; omega
    · rw [up_own hU (bandNo (grid1.coords t)) ⟨256 * (grid1.coords t 0).val - 1, by omega⟩ b
        (by show 256 * (grid1.coords t 0).val - 1 + 1 = 256 * (grid1.coords t 0).val; omega), hq]
      refine spot _ _ _ _ ?_ rfl
      show 4096 * (c.val / 2) + (256 * (grid1.coords t 0).val - 1) = g.val; omega
  · rw [up_next _ _ a ⟨a.val - 1, by omega⟩ (by show a.val = a.val - 1 + 1; omega), x1_at, mid_arg, hq]
    refine spot _ _ _ _ ?_ rfl
    show 4096 * (c.val / 2) + (256 * (grid1.coords t 0).val + (a.val - 1)) = g.val; omega

/-- The row below, at a place not in the array's last row. -/
theorem south (hq : Quartered m G) (hD : dnGood c (xv (Vm m) c) (rv (Vm m) (xn c)) D) (t : Fin cfg1.N) (a : Fin 256) (b : Fin 4096)
    (g : Fin 8192) (hg : g.val = (farRow c (rowNo t a)).val + 1) :
    k1_pay3 (x1 (mid (Vm m) U D c) t) (lineOf (grid1.coords t) (d1 (mid (Vm m) U D c))) (ix2 a b) = G (ix2 g (farCol c b)) := by
  have h1 : c.val < 4 := c.isLt
  have h2 := a.isLt
  have h3 := band_lt t
  have h4 := g.isLt
  have hg' : g.val = 4096 * (c.val / 2) + (256 * (grid1.coords t 0).val + a.val) + 1 := hg
  by_cases ha : a.val = 255
  · obtain rfl : a = 255 := Fin.ext ha
    have hg'' : g.val = 4096 * (c.val / 2) + (256 * (grid1.coords t 0).val + 255) + 1 := hg
    rw [dn_last, lineOf_at, mid_dn]
    by_cases ht : (grid1.coords t 0).val = 15
    · have hl : ¬ c.val / 2 = 1 := by omega
      rw [show bandNo (grid1.coords t) = Fin.last 15 from Fin.ext ht, dn_got hD hl, hq]
      refine spot _ _ _ _ ?_ ?_
      · show 4096 * ((c.val + 2) % 4 / 2) + 0 = g.val; omega
      · show 4096 * ((c.val + 2) % 4 % 2) + b.val = 4096 * (c.val % 2) + b.val; omega
    · rw [dn_own hD (bandNo (grid1.coords t)) ⟨256 * (grid1.coords t 0).val + 256, by omega⟩ b rfl, hq]
      refine spot _ _ _ _ ?_ rfl
      show 4096 * (c.val / 2) + (256 * (grid1.coords t 0).val + 256) = g.val; omega
  · rw [dn_next _ _ a ⟨a.val + 1, by omega⟩ rfl, x1_at, mid_arg, hq]
    refine spot _ _ _ _ ?_ rfl
    show 4096 * (c.val / 2) + (256 * (grid1.coords t 0).val + (a.val + 1)) = g.val; omega

/-- The column received, at a row of the block. -/
theorem across (hq : Quartered m G) (r : Fin 4096) (k : Fin 8192)
    (hk : k.val = 4096 * ((yn c).val % 2) + (sentCol (yn c)).val) :
    (mid (Vm m) U D c (main_v25 : DevRef τ sig) : S4096x1.Idx → Elt Ideal .bf16) (ix2 r 0) = G (ix2 (farRow c r) k) := by
  have h1 : c.val < 4 := c.isLt
  rw [mid_col, hq]
  refine spot _ _ _ _ ?_ hk.symm
  show 4096 * ((2 * (c.val / 2) + 1 - c.val % 2) / 2) + r.val = 4096 * (c.val / 2) + r.val
  omega

theorem yn_odd (h : c.val % 2 = 1) : 4096 * ((yn c).val % 2) + (sentCol (yn c)).val = 4095 := by
  have h1 : c.val < 4 := c.isLt
  have hy : (yn c).val % 2 = 0 := by show (2 * (c.val / 2) + 1 - c.val % 2) % 2 = 0; omega
  rw [hy, show sentCol (yn c) = 4095 from if_neg (by omega)]
  rfl
theorem yn_even (h : c.val % 2 = 0) : 4096 * ((yn c).val % 2) + (sentCol (yn c)).val = 4096 := by
  have h1 : c.val < 4 := c.isLt
  have hy : (yn c).val % 2 = 1 := by show (2 * (c.val / 2) + 1 - c.val % 2) % 2 = 1; omega
  rw [hy, show sentCol (yn c) = 0 from if_pos hy]
  rfl

/-- The band written at a grid point is the reference's result there. -/
theorem band_at (hq : Quartered m G) (hU : upGood c (xv (Vm m) c) (rv (Vm m) (xn c)) U)
    (hD : dnGood c (xv (Vm m) c) (rv (Vm m) (xn c)) D) (t : Fin cfg1.N) (a : Fin 256) (b : Fin 4096) :
    bandOf c (grid1.coords t) (x1 (mid (Vm m) U D c) t) (u1 (mid (Vm m) U D c)) (d1 (mid (Vm m) U D c))
        (w1 (mid (Vm m) U D c) t) (e1 (mid (Vm m) U D c) t) (ix2 a b)
      = Plain.whole G (ix2 (farRow c (rowNo t a)) (farCol c b)) := by
  have hx : ∀ a b, x1 (mid (Vm m) U D c) t (ix2 a b) = G (ix2 (farRow c (rowNo t a)) (farCol c b)) := fun a b => by
    rw [x1_at, mid_arg, hq]
  unfold bandOf
  by_cases hr : RowKept c (bandNo (grid1.coords t)) a
  · rw [keepRow_kept _ _ c _ a b hr, hx]
    refine (Plain.whole_rim G _ _ ?_).symm
    have := (rowKept_iff c t a).mp hr
    omega
  rw [keepRow_else _ _ c _ a b hr]
  by_cases hc : ColKept c b
  · rw [keepCol_kept _ _ c a b hc, hx]
    refine (Plain.whole_rim G _ _ ?_).symm
    have := (colKept_iff c b).mp hc
    omega
  rw [keepCol_else _ _ c a b hc]
  have hr' := mt (rowKept_iff c t a).mpr hr
  have hc' := mt (colKept_iff c b).mpr hc
  have hl1 := (farRow c (rowNo t a)).isLt
  have hl2 := (farCol c b).isLt
  have hb := b.isLt
  have hcol : (farCol c b).val = 4096 * (c.val % 2) + b.val := rfl
  obtain ⟨g1, hg1⟩ : ∃ g : Fin 8192, (farRow c (rowNo t a)).val = g.val + 1 :=
    ⟨⟨(farRow c (rowNo t a)).val - 1, by omega⟩, by show _ = (farRow c (rowNo t a)).val - 1 + 1; omega⟩
  obtain ⟨g2, hg2⟩ : ∃ g : Fin 8192, g.val = (farRow c (rowNo t a)).val + 1 := ⟨⟨(farRow c (rowNo t a)).val + 1, by omega⟩, rfl⟩
  obtain ⟨k1, hk1⟩ : ∃ k : Fin 8192, (farCol c b).val = k.val + 1 :=
    ⟨⟨(farCol c b).val - 1, by omega⟩, by show _ = (farCol c b).val - 1 + 1; omega⟩
  obtain ⟨k2, hk2⟩ : ∃ k : Fin 8192, k.val = (farCol c b).val + 1 := ⟨⟨(farCol c b).val + 1, by omega⟩, rfl⟩
  rw [Plain.whole_at G _ _ g1 g2 k1 k2 hg1 hg2 hk1 hk2]
  refine (sides_at _ _ _ _ _ a b (G (ix2 (farRow c (rowNo t a)) k1)) (G (ix2 (farRow c (rowNo t a)) k2)) ?_ ?_ ?_ ?_).trans ?_
  · rintro rfl
    rw [w1_at]
    refine (across hq _ _ ?_).symm
    have h0 : (farCol c 0).val = 4096 * (c.val % 2) + 0 := rfl
    rw [yn_odd (by omega)]
    omega
  · intro b' h
    rw [hx]
    refine spot _ _ _ _ rfl ?_
    show k1.val = 4096 * (c.val % 2) + b'.val
    omega
  · rintro rfl
    rw [e1_at]
    refine (across hq _ _ ?_).symm
    have h0 : (farCol c 4095).val = 4096 * (c.val % 2) + 4095 := rfl
    rw [yn_even (by omega)]
    omega
  · intro b' h
    rw [hx]
    refine spot _ _ _ _ rfl ?_
    show k2.val = 4096 * (c.val % 2) + b'.val
    omega
  · rw [hx, north hq hU t a b g1 hg1, south hq hD t a b g2 hg2]

end Cert.Halo

end
-- ==== Proof.Value.lean ====
/-
# Kernel and reference compute one function

The kernel's run ends with the second region's result in its buffer, the reference's with `whole`. The bands
cover the block, so the block is the quarter of `whole` that its device has; and that is the claim.
-/
module

public import proofs.«01_k».proof.Proof.Meet
public import proofs.«01_k».proof.Proof.Frames
public import Idealize.ShloMosaic.Lib.Pipeline.Covers

@[expose] public section

noncomputable section

namespace Cert.Halo

open Cert.KernelIdeal Cert.KernelIdeal.Gen
open Idealize.ShloMosaic hiding ix2 ix3 eq_ix2
open Idealize.ShloMosaic.ValueIdx Idealize.ShloMosaic.TcCoe Idealize.SL.Sem

variable {m : (ℓ : Loc nD τ sig) → Buf (Elt Ideal) ℓ} {G : FVec Ideal Cert.ReferenceIdeal.S8192x8192 .bf16}
variable {U D : S16x1x4096.Idx → Elt Ideal .bf16} {c : Dev nD}

theorem far_of_block (h : Layout.TilesN ⟨2, ![4096, 4096]⟩ ⟨2, ![8192, 8192]⟩ fun b => Layout.cutSize [2, 2] ((![[0], [1]] : Fin 2 → List Nat) b)) (c : Dev nD) (r b : Fin 4096) :
    h.idx (Layout.meshBlock [2, 2] ![[0], [1]] c) (ix2 r b) = ix2 (farRow c r) (farCol c b) := by
  have h1 : c.val < 4 := c.isLt
  funext q
  refine Fin.ext ((Layout.TilesN.idx_val h _ _ q).trans ?_)
  match q with
  | ⟨0, _⟩ =>
    show ((c.val / 2) % 2 * 1 + 0) * 4096 + r.val = 4096 * (c.val / 2) + r.val
    omega
  | ⟨1, _⟩ =>
    show ((c.val / 1) % 2 * 1 + 0) * 4096 + b.val = 4096 * (c.val % 2) + b.val
    omega

/-- Every place of a device's block is written by some grid point. -/
theorem bands_cover (i : S4096x4096.Idx) : ∃ t : Fin cfg1.N, (cfg1.win 5).flush t = true ∧ i ∈ ((cfg1.win 5).blk t).view.set := by
  have h0 : (i 0).val < 4096 := (i 0).isLt
  obtain ⟨t, ht⟩ := Pipeline.Grid.coords_surjective grid1 (fun a => match a with | ⟨0, _⟩ => (⟨(i 0).val / 256, by omega⟩ : Fin 16))
  refine ⟨t, flush1_5 t, ?_⟩
  have hb : (grid1.coords t 0).val = (i 0).val / 256 := by rw [ht]
  rw [show i = ((cfg1.win 5).blk t).view.emb (ix2 (⟨(i 0).val % 256, Nat.mod_lt _ (by decide)⟩ : Fin 256) (i 1)) from by
    refine ((eq_ix2 i).trans ?_).trans (out_at t (ix2 (⟨(i 0).val % 256, Nat.mod_lt _ (by decide)⟩ : Fin 256) (i 1))).symm
    refine congrArg (fun r : Fin 4096 => ix2 r (i 1)) (Fin.ext ?_)
    show (i 0).val = 256 * (grid1.coords t 0).val + (i 0).val % 256
    omega]
  exact ((cfg1.win 5).blk t).view.emb_mem_set _

/-- The second region's result, place by place. -/
theorem block_at (hq : Quartered m G) (hU : upGood c (xv (Vm m) c) (rv (Vm m) (xn c)) U)
    (hD : dnGood c (xv (Vm m) c) (rv (Vm m) (xn c)) D) (r b : Fin 4096) :
    ((dat1 (mid (Vm m) U D c) c).arrAt 5 cfg1.N : S4096x4096.Idx → Elt Ideal .bf16) (ix2 r b) = Plain.whole G (ix2 (farRow c r) (farCol c b)) := by
  refine (dat1 (mid (Vm m) U D c) c).arrAt_forall_of_cover 5
    (fun (i : S4096x4096.Idx) (v : Elt Ideal .bf16) => v = Plain.whole G (ix2 (farRow c (i 0)) (farCol c (i 1)))) ?_ bands_cover (ix2 r b)
  intro t _ y
  have he : ((cfg1.win 5).blk t).view.emb y = ix2 (rowNo t (y 0)) (y 1) := out_at t y
  rw [he]
  refine Eq.trans ?_ (band_at hq hU hD t (y 0) (y 1))
  exact congrArg (bandOf c (grid1.coords t) (x1 (mid (Vm m) U D c) t) (u1 (mid (Vm m) U D c)) (d1 (mid (Vm m) U D c))
        (w1 (mid (Vm m) U D c) t) (e1 (mid (Vm m) U D c) t)) (eq_ix2 y)

/-- A device's result is its quarter of the reference's. -/
theorem Ends.value {s : MemSt nD τ sig (Elt Ideal)} (hq : Quartered m G) (h : Ends m c s) (r b : Fin 4096) :
    (s.mem ((c : Thread nD τ).loc main_v28) : S4096x4096.Idx → Elt Ideal .bf16) (ix2 r b) = Plain.whole G (ix2 (farRow c r) (farCol c b)) := by
  obtain ⟨U, D, ⟨hU, hD⟩, h⟩ := h
  refine (congrFun ((h main_v28 (by decide)).trans (Function.update_self _ _ _)) (ix2 r b)).trans ?_
  exact block_at hq hU hD r b

/-- Kernel and reference compute one function over the extended reals. -/
theorem same_function : Cert.algebraic_KernelIdeal_ReferenceIdeal := by
  intro m g m' g' _ hm
  have hq : Quartered m (m' (((0 : Dev Cert.ReferenceIdeal.nD).tc : Thread Cert.ReferenceIdeal.nD Cert.ReferenceIdeal.τ).loc Cert.ReferenceIdeal.main_arg0)) :=
    fun c r b => by
      refine (congrFun (hm c) (ix2 r b)).trans ?_
      rw [Layout.blockN_apply, far_of_block]
  refine ⟨Plain.whole (F := Ideal) (m' (((0 : Dev Cert.ReferenceIdeal.nD).tc : Thread Cert.ReferenceIdeal.nD Cert.ReferenceIdeal.τ).loc Cert.ReferenceIdeal.main_arg0)), ?_, ?_⟩
  · refine (θ_run defs _ _).mono (fun s h c => ⟨?_, (h.1 c).arg⟩) (run_main (F := Ideal) m g)
    funext i
    obtain ⟨r, b, rfl⟩ : ∃ (r b : Fin 4096), i = ix2 r b := ⟨i 0, i 1, eq_ix2 i⟩
    refine ((h.1 c).value hq r b).trans ?_
    rw [Layout.blockN_apply, far_of_block]
  · exact (θ_run Cert.ReferenceIdeal.defs _ _).mono (fun s h => h.1 0) (Plain.run_line (F := Ideal) m' g')

end Cert.Halo

end
-- ==== Proof.lean ====
/-
# The claims

The frames of the two kernel programs and of the reference, the idealization, which rewrites no operation, and
that kernel and reference compute one function.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Reference
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Halo.frame_kernel, Cert.Halo.frame_kernelIdeal, Cert.Halo.Plain.frame_reference, trivial,
  Cert.Halo.same_function⟩

end Cert.Proof

end
